-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S32 : Shape := ⟨1, ![32]⟩
abbrev S_ : Shape := ⟨0, ![]⟩
abbrev S2 : Shape := ⟨1, ![2]⟩
abbrev S16 : Shape := ⟨1, ![16]⟩
abbrev S16x1 : Shape := ⟨2, ![16, 1]⟩
abbrev S15 : Shape := ⟨1, ![15]⟩
abbrev S15x1 : Shape := ⟨2, ![15, 1]⟩
abbrev S128x1024 : Shape := ⟨2, ![128, 1024]⟩
abbrev S2x128x1024 : Shape := ⟨3, ![2, 128, 1024]⟩
abbrev S4 : Shape := ⟨1, ![4]⟩
abbrev S128x128 : Shape := ⟨2, ![128, 128]⟩
abbrev S1x128x1024 : Shape := ⟨3, ![1, 128, 1024]⟩

abbrev nBuf : Space → Nat
  | .hbm => 147
  | .vmem => 12
  | .smem => 5
  | _ => 0

abbrev hbmTy0_0 (i : Nat) : BufTy := match i % 128 with
  | 0 => ⟨S4096x128, .fp8e4m3⟩
  | 1 => ⟨S128x2048, .fp8e5m2⟩
  | 2 => ⟨S1, .f32⟩
  | 3 => ⟨S1, .f32⟩
  | 4 => ⟨S32, .i32⟩
  | 5 => ⟨S32, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i1⟩
  | 34 => ⟨S_, .i1⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i1⟩
  | 58 => ⟨S_, .i32⟩
  | 59 => ⟨S_, .i1⟩
  | 60 => ⟨S_, .i1⟩
  | 61 => ⟨S_, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S1, .i32⟩
  | 70 => ⟨S_, .i32⟩
  | 71 => ⟨S1, .i32⟩
  | 72 => ⟨S1, .i32⟩
  | 73 => ⟨S2, .i32⟩
  | 74 => ⟨S_, .i32⟩
  | 75 => ⟨S_, .i32⟩
  | 76 => ⟨S16, .i32⟩
  | 77 => ⟨S16, .i32⟩
  | 78 => ⟨S16, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S16, .i32⟩
  | 86 => ⟨S16, .i32⟩
  | 87 => ⟨S_, .i32⟩
  | 88 => ⟨S16, .i32⟩
  | 89 => ⟨S16, .i1⟩
  | 90 => ⟨S_, .i32⟩
  | 91 => ⟨S16, .i32⟩
  | 92 => ⟨S16, .i1⟩
  | 93 => ⟨S_, .i32⟩
  | 94 => ⟨S_, .i1⟩
  | 95 => ⟨S16, .i1⟩
  | 96 => ⟨S16, .i1⟩
  | 97 => ⟨S16, .i1⟩
  | 98 => ⟨S16, .i32⟩
  | 99 => ⟨S16, .i32⟩
  | 100 => ⟨S16, .i32⟩
  | 101 => ⟨S_, .i32⟩
  | 102 => ⟨S16, .i32⟩
  | 103 => ⟨S16, .i1⟩
  | 104 => ⟨S_, .i32⟩
  | 105 => ⟨S16, .i32⟩
  | 106 => ⟨S16, .i32⟩
  | 107 => ⟨S16, .i32⟩
  | 108 => ⟨S16x1, .i32⟩
  | 109 => ⟨S16, .i32⟩
  | 110 => ⟨S_, .i32⟩
  | 111 => ⟨S_, .i32⟩
  | 112 => ⟨S15, .i32⟩
  | 113 => ⟨S15, .i32⟩
  | 114 => ⟨S15, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S15, .i32⟩
  | 122 => ⟨S15, .i32⟩
  | 123 => ⟨S_, .i32⟩
  | 124 => ⟨S15, .i32⟩
  | 125 => ⟨S15, .i1⟩
  | 126 => ⟨S_, .i32⟩
  | 127 => ⟨S15, .i32⟩
  | _ => ⟨S4096x128, .fp8e4m3⟩

abbrev hbmTy0_1 (i : Nat) : BufTy := match i % 128 with
  | 0 => ⟨S15, .i1⟩
  | 1 => ⟨S_, .i32⟩
  | 2 => ⟨S_, .i1⟩
  | 3 => ⟨S15, .i1⟩
  | 4 => ⟨S15, .i1⟩
  | 5 => ⟨S15, .i1⟩
  | 6 => ⟨S15, .i32⟩
  | 7 => ⟨S15, .i32⟩
  | 8 => ⟨S15, .i32⟩
  | 9 => ⟨S_, .i32⟩
  | 10 => ⟨S15, .i32⟩
  | 11 => ⟨S15, .i1⟩
  | 12 => ⟨S_, .i32⟩
  | 13 => ⟨S15, .i32⟩
  | 14 => ⟨S15, .i32⟩
  | 15 => ⟨S15, .i32⟩
  | 16 => ⟨S15x1, .i32⟩
  | 17 => ⟨S15, .i32⟩
  | 18 => ⟨S128x2048, .f32⟩
  | _ => ⟨S4096x128, .fp8e4m3⟩

abbrev hbmTy (i : Nat) : BufTy := match i / 128 with
  | 0 => hbmTy0_0 i
  | 1 => hbmTy0_1 i
  | _ => ⟨S4096x128, .fp8e4m3⟩

abbrev bufTy : (tb : Table) → Fin (tcTables nBuf tb) → BufTy
  | .hbm, ⟨i, _⟩ => hbmTy i
  | .local _ .vmem, ⟨0, _⟩ => ⟨S4096x128, .fp8e4m3⟩
  | .local _ .vmem, ⟨1, _⟩ => ⟨S128x2048, .fp8e5m2⟩
  | .local _ .vmem, ⟨2, _⟩ => ⟨S128x2048, .f32⟩
  | .local _ .vmem, ⟨3, _⟩ => ⟨S128x2048, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S2x128x1024, .bf16⟩
  | .local _ .vmem, ⟨9, _⟩ => ⟨S2x128x1024, .bf16⟩
  | .local _ .vmem, ⟨10, _⟩ => ⟨S2x128x1024, .bf16⟩
  | .local _ .vmem, ⟨11, _⟩ => ⟨S2x128x1024, .bf16⟩
  | .local _ .smem, ⟨0, _⟩ => ⟨S1, .f32⟩
  | .local _ .smem, ⟨1, _⟩ => ⟨S1, .f32⟩
  | .local _ .smem, ⟨2, _⟩ => ⟨S2, .i32⟩
  | .local _ .smem, ⟨3, _⟩ => ⟨S16, .i32⟩
  | .local _ .smem, ⟨4, _⟩ => ⟨S15, .i32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_c_6 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v11 : Ref sig .tc := ⟨.hbm, 37, rfl⟩
abbrev main_c_7 : Ref sig .tc := ⟨.hbm, 38, rfl⟩
abbrev main_v12 : Ref sig .tc := ⟨.hbm, 39, rfl⟩
abbrev main_c_8 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_9 : Ref sig .tc := ⟨.hbm, 45, rfl⟩
abbrev main_v17 : Ref sig .tc := ⟨.hbm, 46, rfl⟩
abbrev main_c_10 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_c_1 : Ref sig .tc := ⟨.hbm, 54, rfl⟩
abbrev main_call1_v4 : Ref sig .tc := ⟨.hbm, 55, rfl⟩
abbrev main_call1_c_2 : Ref sig .tc := ⟨.hbm, 56, rfl⟩
abbrev main_call1_v5 : Ref sig .tc := ⟨.hbm, 57, rfl⟩
abbrev main_call1_c_3 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_v18 : Ref sig .tc := ⟨.hbm, 63, rfl⟩
abbrev main_c_11 : Ref sig .tc := ⟨.hbm, 64, rfl⟩
abbrev main_v19 : Ref sig .tc := ⟨.hbm, 65, rfl⟩
abbrev main_c_12 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_13 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_c_14 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v31 : Ref sig .tc := ⟨.hbm, 100, rfl⟩
abbrev main_c_15 : Ref sig .tc := ⟨.hbm, 101, rfl⟩
abbrev main_v32 : Ref sig .tc := ⟨.hbm, 102, rfl⟩
abbrev main_v33 : Ref sig .tc := ⟨.hbm, 103, rfl⟩
abbrev main_c_16 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_c_17 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_c_18 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_c_1 : Ref sig .tc := ⟨.hbm, 123, rfl⟩
abbrev main_call3_v5 : Ref sig .tc := ⟨.hbm, 124, rfl⟩
abbrev main_call3_v6 : Ref sig .tc := ⟨.hbm, 125, rfl⟩
abbrev main_call3_c_2 : Ref sig .tc := ⟨.hbm, 126, rfl⟩
abbrev main_call3_v7 : Ref sig .tc := ⟨.hbm, 127, rfl⟩
abbrev main_call3_v8 : Ref sig .tc := ⟨.hbm, 128, rfl⟩
abbrev main_call3_c_3 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_v43 : Ref sig .tc := ⟨.hbm, 136, rfl⟩
abbrev main_c_19 : Ref sig .tc := ⟨.hbm, 137, rfl⟩
abbrev main_v44 : Ref sig .tc := ⟨.hbm, 138, rfl⟩
abbrev main_v45 : Ref sig .tc := ⟨.hbm, 139, rfl⟩
abbrev main_c_20 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_off1 (v13 : BitVec 32) : Fin 2 → Nat :=
  let c128_i32 : BitVec 32 := 128#32
  let v14 : BitVec 32 := Scalar.muli v13 c128_i32
  let v15 : Index := Scalar.indexCast v14
  let c0_9 : Index := 0#32
  ![v15.toNat, 0]

def k0_chk3 (v13 : BitVec 32) : Prop :=
  (∀ a, (k0_off1 v13) a + S128x128.size a ≤ S4096x128.size a)
theorem k0_off1_inb : ∀ (v13 : BitVec 32) (k0_hw3 : k0_chk3 v13), ∀ a, (k0_off1 v13) a + S128x128.size a ≤ S4096x128.size a := fun v13 k0_hw3 => k0_hw3

def k0_off2 (v22 : BitVec 32) : Fin 2 → Nat :=
  let c128_i32_13 : BitVec 32 := 128#32
  let v23 : BitVec 32 := Scalar.muli v22 c128_i32_13
  let v24 : Index := Scalar.indexCast v23
  let c0_14 : Index := 0#32
  ![v24.toNat, 0]

def k0_chk4 (v22 : BitVec 32) : Prop :=
  (∀ a, (k0_off2 v22) a + S128x128.size a ≤ S4096x128.size a)
theorem k0_off2_inb : ∀ (v22 : BitVec 32) (k0_hw4 : k0_chk4 v22), ∀ a, (k0_off2 v22) a + S128x128.size a ≤ S4096x128.size a := fun v22 k0_hw4 => k0_hw4

def k0_dev3 (v0 : BitVec 32) : Nat :=
  let c0_i32_30 : BitVec 32 := 0#32
  let c1_i32_29 : BitVec 32 := 1#32
  let v47 : BitVec 32 := Scalar.muli v0 c1_i32_29
  let v48 : BitVec 32 := Scalar.addi c0_i32_30 v47
  v48.toNat
def k0_dev4 (v1 : BitVec 32) : Nat :=
  let c0_i32_37 : BitVec 32 := 0#32
  let c1_i32_36 : BitVec 32 := 1#32
  let v55 : BitVec 32 := Scalar.muli v1 c1_i32_36
  let v56 : BitVec 32 := Scalar.addi c0_i32_37 v55
  v56.toNat
def k0_dev5 (v0 : BitVec 32) : Nat :=
  let c0_i32_44 : BitVec 32 := 0#32
  let c1_i32_43 : BitVec 32 := 1#32
  let v63 : BitVec 32 := Scalar.muli v0 c1_i32_43
  let v64 : BitVec 32 := Scalar.addi c0_i32_44 v63
  v64.toNat
def k0_dev6 (v1 : BitVec 32) : Nat :=
  let c0_i32_50 : BitVec 32 := 0#32
  let c1_i32_49 : BitVec 32 := 1#32
  let v71 : BitVec 32 := Scalar.muli v1 c1_i32_49
  let v72 : BitVec 32 := Scalar.addi c0_i32_50 v71
  v72.toNat
def k0_off3 (v79 : BitVec 32) : Fin 2 → Nat :=
  let c128_i32_54 : BitVec 32 := 128#32
  let v80 : BitVec 32 := Scalar.muli v79 c128_i32_54
  let v81 : Index := Scalar.indexCast v80
  let c0_55 : Index := 0#32
  ![v81.toNat, 0]

def k0_chk5 (v79 : BitVec 32) : Prop :=
  (∀ a, (k0_off3 v79) a + S128x128.size a ≤ S4096x128.size a)
theorem k0_off3_inb : ∀ (v79 : BitVec 32) (k0_hw5 : k0_chk5 v79), ∀ a, (k0_off3 v79) a + S128x128.size a ≤ S4096x128.size a := fun v79 k0_hw5 => k0_hw5

def k0_off4 (v88 : BitVec 32) : Fin 2 → Nat :=
  let c128_i32_60 : BitVec 32 := 128#32
  let v89 : BitVec 32 := Scalar.muli v88 c128_i32_60
  let v90 : Index := Scalar.indexCast v89
  let c0_61 : Index := 0#32
  ![v90.toNat, 0]

def k0_chk6 (v88 : BitVec 32) : Prop :=
  (∀ a, (k0_off4 v88) a + S128x128.size a ≤ S4096x128.size a)
theorem k0_off4_inb : ∀ (v88 : BitVec 32) (k0_hw6 : k0_chk6 v88), ∀ a, (k0_off4 v88) a + S128x128.size a ≤ S4096x128.size a := fun v88 k0_hw6 => k0_hw6

def k0_dev7 (v0 : BitVec 32) : Nat :=
  let c0_i32_105 : BitVec 32 := 0#32
  let c1_i32_104 : BitVec 32 := 1#32
  let v131 : BitVec 32 := Scalar.muli v0 c1_i32_104
  let v132 : BitVec 32 := Scalar.addi c0_i32_105 v131
  v132.toNat
def k0_dev8 (v1 : BitVec 32) : Nat :=
  let c0_i32_112 : BitVec 32 := 0#32
  let c1_i32_111 : BitVec 32 := 1#32
  let v139 : BitVec 32 := Scalar.muli v1 c1_i32_111
  let v140 : BitVec 32 := Scalar.addi c0_i32_112 v139
  v140.toNat
def k0_dev9 (v0 : BitVec 32) : Nat :=
  let c0_i32_155 : BitVec 32 := 0#32
  let c1_i32_154 : BitVec 32 := 1#32
  let v181 : BitVec 32 := Scalar.muli v0 c1_i32_154
  let v182 : BitVec 32 := Scalar.addi c0_i32_155 v181
  v182.toNat
def k0_dev10 (v1 : BitVec 32) : Nat :=
  let c0_i32_162 : BitVec 32 := 0#32
  let c1_i32_161 : BitVec 32 := 1#32
  let v189 : BitVec 32 := Scalar.muli v1 c1_i32_161
  let v190 : BitVec 32 := Scalar.addi c0_i32_162 v189
  v190.toNat
def k0_off5 (v197 : BitVec 32) : Fin 2 → Nat :=
  let c128_i32_165 : BitVec 32 := 128#32
  let v198 : BitVec 32 := Scalar.muli v197 c128_i32_165
  let v199 : Index := Scalar.indexCast v198
  let c0_166 : Index := 0#32
  ![v199.toNat, 0]

def k0_chk7 (v197 : BitVec 32) : Prop :=
  (∀ a, (k0_off5 v197) a + S128x128.size a ≤ S4096x128.size a)
theorem k0_off5_inb : ∀ (v197 : BitVec 32) (k0_hw7 : k0_chk7 v197), ∀ a, (k0_off5 v197) a + S128x128.size a ≤ S4096x128.size a := fun v197 k0_hw7 => k0_hw7

def k0_off6 (v206 : BitVec 32) : Fin 2 → Nat :=
  let c128_i32_171 : BitVec 32 := 128#32
  let v207 : BitVec 32 := Scalar.muli v206 c128_i32_171
  let v208 : Index := Scalar.indexCast v207
  let c0_172 : Index := 0#32
  ![v208.toNat, 0]

def k0_chk8 (v206 : BitVec 32) : Prop :=
  (∀ a, (k0_off6 v206) a + S128x128.size a ≤ S4096x128.size a)
theorem k0_off6_inb : ∀ (v206 : BitVec 32) (k0_hw8 : k0_chk8 v206), ∀ a, (k0_off6 v206) a + S128x128.size a ≤ S4096x128.size a := fun v206 k0_hw8 => k0_hw8

def k0_dev11 (v0 : BitVec 32) : Nat :=
  let c0_i32_216 : BitVec 32 := 0#32
  let c1_i32_215 : BitVec 32 := 1#32
  let v249 : BitVec 32 := Scalar.muli v0 c1_i32_215
  let v250 : BitVec 32 := Scalar.addi c0_i32_216 v249
  v250.toNat
def k0_dev12 (v1 : BitVec 32) : Nat :=
  let c0_i32_223 : BitVec 32 := 0#32
  let c1_i32_222 : BitVec 32 := 1#32
  let v257 : BitVec 32 := Scalar.muli v1 c1_i32_222
  let v258 : BitVec 32 := Scalar.addi c0_i32_223 v257
  v258.toNat
def k0_dev13 (v0 : BitVec 32) : Nat :=
  let c0_i32_266 : BitVec 32 := 0#32
  let c1_i32_265 : BitVec 32 := 1#32
  let v299 : BitVec 32 := Scalar.muli v0 c1_i32_265
  let v300 : BitVec 32 := Scalar.addi c0_i32_266 v299
  v300.toNat
def k0_dev14 (v1 : BitVec 32) : Nat :=
  let c0_i32_273 : BitVec 32 := 0#32
  let c1_i32_272 : BitVec 32 := 1#32
  let v307 : BitVec 32 := Scalar.muli v1 c1_i32_272
  let v308 : BitVec 32 := Scalar.addi c0_i32_273 v307
  v308.toNat
def k0_off7 (v315 : BitVec 32) : Fin 2 → Nat :=
  let c128_i32_276 : BitVec 32 := 128#32
  let v316 : BitVec 32 := Scalar.muli v315 c128_i32_276
  let v317 : Index := Scalar.indexCast v316
  let c0_277 : Index := 0#32
  ![v317.toNat, 0]

def k0_chk9 (v315 : BitVec 32) : Prop :=
  (∀ a, (k0_off7 v315) a + S128x128.size a ≤ S4096x128.size a)
theorem k0_off7_inb : ∀ (v315 : BitVec 32) (k0_hw9 : k0_chk9 v315), ∀ a, (k0_off7 v315) a + S128x128.size a ≤ S4096x128.size a := fun v315 k0_hw9 => k0_hw9

def k0_off8 (v324 : BitVec 32) : Fin 2 → Nat :=
  let c128_i32_282 : BitVec 32 := 128#32
  let v325 : BitVec 32 := Scalar.muli v324 c128_i32_282
  let v326 : Index := Scalar.indexCast v325
  let c0_283 : Index := 0#32
  ![v326.toNat, 0]

def k0_chk10 (v324 : BitVec 32) : Prop :=
  (∀ a, (k0_off8 v324) a + S128x128.size a ≤ S4096x128.size a)
theorem k0_off8_inb : ∀ (v324 : BitVec 32) (k0_hw10 : k0_chk10 v324), ∀ a, (k0_off8 v324) a + S128x128.size a ≤ S4096x128.size a := fun v324 k0_hw10 => k0_hw10

def k0_dev15 (v0 : BitVec 32) : Nat :=
  let c0_i32_327 : BitVec 32 := 0#32
  let c1_i32_326 : BitVec 32 := 1#32
  let v367 : BitVec 32 := Scalar.muli v0 c1_i32_326
  let v368 : BitVec 32 := Scalar.addi c0_i32_327 v367
  v368.toNat
def k0_dev16 (v1 : BitVec 32) : Nat :=
  let c0_i32_334 : BitVec 32 := 0#32
  let c1_i32_333 : BitVec 32 := 1#32
  let v375 : BitVec 32 := Scalar.muli v1 c1_i32_333
  let v376 : BitVec 32 := Scalar.addi c0_i32_334 v375
  v376.toNat
def k0_dev17 (v0 : BitVec 32) : Nat :=
  let c0_i32_377 : BitVec 32 := 0#32
  let c1_i32_376 : BitVec 32 := 1#32
  let v417 : BitVec 32 := Scalar.muli v0 c1_i32_376
  let v418 : BitVec 32 := Scalar.addi c0_i32_377 v417
  v418.toNat
def k0_dev18 (v1 : BitVec 32) : Nat :=
  let c0_i32_384 : BitVec 32 := 0#32
  let c1_i32_383 : BitVec 32 := 1#32
  let v425 : BitVec 32 := Scalar.muli v1 c1_i32_383
  let v426 : BitVec 32 := Scalar.addi c0_i32_384 v425
  v426.toNat
def k0_off9 (v433 : BitVec 32) : Fin 2 → Nat :=
  let c128_i32_387 : BitVec 32 := 128#32
  let v434 : BitVec 32 := Scalar.muli v433 c128_i32_387
  let v435 : Index := Scalar.indexCast v434
  let c0_388 : Index := 0#32
  ![v435.toNat, 0]

def k0_chk11 (v433 : BitVec 32) : Prop :=
  (∀ a, (k0_off9 v433) a + S128x128.size a ≤ S4096x128.size a)
theorem k0_off9_inb : ∀ (v433 : BitVec 32) (k0_hw11 : k0_chk11 v433), ∀ a, (k0_off9 v433) a + S128x128.size a ≤ S4096x128.size a := fun v433 k0_hw11 => k0_hw11

def k0_off10 (v442 : BitVec 32) : Fin 2 → Nat :=
  let c128_i32_393 : BitVec 32 := 128#32
  let v443 : BitVec 32 := Scalar.muli v442 c128_i32_393
  let v444 : Index := Scalar.indexCast v443
  let c0_394 : Index := 0#32
  ![v444.toNat, 0]

def k0_chk12 (v442 : BitVec 32) : Prop :=
  (∀ a, (k0_off10 v442) a + S128x128.size a ≤ S4096x128.size a)
theorem k0_off10_inb : ∀ (v442 : BitVec 32) (k0_hw12 : k0_chk12 v442), ∀ a, (k0_off10 v442) a + S128x128.size a ≤ S4096x128.size a := fun v442 k0_hw12 => k0_hw12

def k0_dev19 (v0 : BitVec 32) : Nat :=
  let c0_i32_437 : BitVec 32 := 0#32
  let c1_i32_436 : BitVec 32 := 1#32
  let v485 : BitVec 32 := Scalar.muli v0 c1_i32_436
  let v486 : BitVec 32 := Scalar.addi c0_i32_437 v485
  v486.toNat
def k0_dev20 (v1 : BitVec 32) : Nat :=
  let c0_i32_444 : BitVec 32 := 0#32
  let c1_i32_443 : BitVec 32 := 1#32
  let v493 : BitVec 32 := Scalar.muli v1 c1_i32_443
  let v494 : BitVec 32 := Scalar.addi c0_i32_444 v493
  v494.toNat
def k0_dev21 (v0 : BitVec 32) : Nat :=
  let c0_i32_487 : BitVec 32 := 0#32
  let c1_i32_486 : BitVec 32 := 1#32
  let v535 : BitVec 32 := Scalar.muli v0 c1_i32_486
  let v536 : BitVec 32 := Scalar.addi c0_i32_487 v535
  v536.toNat
def k0_dev22 (v1 : BitVec 32) : Nat :=
  let c0_i32_494 : BitVec 32 := 0#32
  let c1_i32_493 : BitVec 32 := 1#32
  let v543 : BitVec 32 := Scalar.muli v1 c1_i32_493
  let v544 : BitVec 32 := Scalar.addi c0_i32_494 v543
  v544.toNat
def k0_off11 (v551 : BitVec 32) : Fin 2 → Nat :=
  let c128_i32_497 : BitVec 32 := 128#32
  let v552 : BitVec 32 := Scalar.muli v551 c128_i32_497
  let v553 : Index := Scalar.indexCast v552
  let c0_498 : Index := 0#32
  ![v553.toNat, 0]

def k0_chk13 (v551 : BitVec 32) : Prop :=
  (∀ a, (k0_off11 v551) a + S128x128.size a ≤ S4096x128.size a)
theorem k0_off11_inb : ∀ (v551 : BitVec 32) (k0_hw13 : k0_chk13 v551), ∀ a, (k0_off11 v551) a + S128x128.size a ≤ S4096x128.size a := fun v551 k0_hw13 => k0_hw13

def k0_off12 (v560 : BitVec 32) : Fin 2 → Nat :=
  let c128_i32_503 : BitVec 32 := 128#32
  let v561 : BitVec 32 := Scalar.muli v560 c128_i32_503
  let v562 : Index := Scalar.indexCast v561
  let c0_504 : Index := 0#32
  ![v562.toNat, 0]

def k0_chk14 (v560 : BitVec 32) : Prop :=
  (∀ a, (k0_off12 v560) a + S128x128.size a ≤ S4096x128.size a)
theorem k0_off12_inb : ∀ (v560 : BitVec 32) (k0_hw14 : k0_chk14 v560), ∀ a, (k0_off12 v560) a + S128x128.size a ≤ S4096x128.size a := fun v560 k0_hw14 => k0_hw14

def k0_dev23 (v0 : BitVec 32) : Nat :=
  let c0_i32_547 : BitVec 32 := 0#32
  let c1_i32_546 : BitVec 32 := 1#32
  let v603 : BitVec 32 := Scalar.muli v0 c1_i32_546
  let v604 : BitVec 32 := Scalar.addi c0_i32_547 v603
  v604.toNat
def k0_dev24 (v1 : BitVec 32) : Nat :=
  let c0_i32_554 : BitVec 32 := 0#32
  let c1_i32_553 : BitVec 32 := 1#32
  let v611 : BitVec 32 := Scalar.muli v1 c1_i32_553
  let v612 : BitVec 32 := Scalar.addi c0_i32_554 v611
  v612.toNat
def k0_dev25 (v0 : BitVec 32) : Nat :=
  let c0_i32_597 : BitVec 32 := 0#32
  let c1_i32_596 : BitVec 32 := 1#32
  let v653 : BitVec 32 := Scalar.muli v0 c1_i32_596
  let v654 : BitVec 32 := Scalar.addi c0_i32_597 v653
  v654.toNat
def k0_dev26 (v1 : BitVec 32) : Nat :=
  let c0_i32_604 : BitVec 32 := 0#32
  let c1_i32_603 : BitVec 32 := 1#32
  let v661 : BitVec 32 := Scalar.muli v1 c1_i32_603
  let v662 : BitVec 32 := Scalar.addi c0_i32_604 v661
  v662.toNat
def k0_off13 (v669 : BitVec 32) : Fin 2 → Nat :=
  let c128_i32_607 : BitVec 32 := 128#32
  let v670 : BitVec 32 := Scalar.muli v669 c128_i32_607
  let v671 : Index := Scalar.indexCast v670
  let c0_608 : Index := 0#32
  ![v671.toNat, 0]

def k0_chk15 (v669 : BitVec 32) : Prop :=
  (∀ a, (k0_off13 v669) a + S128x128.size a ≤ S4096x128.size a)
theorem k0_off13_inb : ∀ (v669 : BitVec 32) (k0_hw15 : k0_chk15 v669), ∀ a, (k0_off13 v669) a + S128x128.size a ≤ S4096x128.size a := fun v669 k0_hw15 => k0_hw15

def k0_off14 (v678 : BitVec 32) : Fin 2 → Nat :=
  let c128_i32_613 : BitVec 32 := 128#32
  let v679 : BitVec 32 := Scalar.muli v678 c128_i32_613
  let v680 : Index := Scalar.indexCast v679
  let c0_614 : Index := 0#32
  ![v680.toNat, 0]

def k0_chk16 (v678 : BitVec 32) : Prop :=
  (∀ a, (k0_off14 v678) a + S128x128.size a ≤ S4096x128.size a)
theorem k0_off14_inb : ∀ (v678 : BitVec 32) (k0_hw16 : k0_chk16 v678), ∀ a, (k0_off14 v678) a + S128x128.size a ≤ S4096x128.size a := fun v678 k0_hw16 => k0_hw16

def k0_dev27 (v0 : BitVec 32) : Nat :=
  let c0_i32_657 : BitVec 32 := 0#32
  let c1_i32_656 : BitVec 32 := 1#32
  let v721 : BitVec 32 := Scalar.muli v0 c1_i32_656
  let v722 : BitVec 32 := Scalar.addi c0_i32_657 v721
  v722.toNat
def k0_dev28 (v1 : BitVec 32) : Nat :=
  let c0_i32_664 : BitVec 32 := 0#32
  let c1_i32_663 : BitVec 32 := 1#32
  let v729 : BitVec 32 := Scalar.muli v1 c1_i32_663
  let v730 : BitVec 32 := Scalar.addi c0_i32_664 v729
  v730.toNat
def k0_dev29 (v0 : BitVec 32) : Nat :=
  let c0_i32_707 : BitVec 32 := 0#32
  let c1_i32_706 : BitVec 32 := 1#32
  let v771 : BitVec 32 := Scalar.muli v0 c1_i32_706
  let v772 : BitVec 32 := Scalar.addi c0_i32_707 v771
  v772.toNat
def k0_dev30 (v1 : BitVec 32) : Nat :=
  let c0_i32_714 : BitVec 32 := 0#32
  let c1_i32_713 : BitVec 32 := 1#32
  let v779 : BitVec 32 := Scalar.muli v1 c1_i32_713
  let v780 : BitVec 32 := Scalar.addi c0_i32_714 v779
  v780.toNat
def k0_off15 (v787 : BitVec 32) : Fin 2 → Nat :=
  let c128_i32_717 : BitVec 32 := 128#32
  let v788 : BitVec 32 := Scalar.muli v787 c128_i32_717
  let v789 : Index := Scalar.indexCast v788
  let c0_718 : Index := 0#32
  ![v789.toNat, 0]

def k0_chk17 (v787 : BitVec 32) : Prop :=
  (∀ a, (k0_off15 v787) a + S128x128.size a ≤ S4096x128.size a)
theorem k0_off15_inb : ∀ (v787 : BitVec 32) (k0_hw17 : k0_chk17 v787), ∀ a, (k0_off15 v787) a + S128x128.size a ≤ S4096x128.size a := fun v787 k0_hw17 => k0_hw17

def k0_off16 (v796 : BitVec 32) : Fin 2 → Nat :=
  let c128_i32_723 : BitVec 32 := 128#32
  let v797 : BitVec 32 := Scalar.muli v796 c128_i32_723
  let v798 : Index := Scalar.indexCast v797
  let c0_724 : Index := 0#32
  ![v798.toNat, 0]

def k0_chk18 (v796 : BitVec 32) : Prop :=
  (∀ a, (k0_off16 v796) a + S128x128.size a ≤ S4096x128.size a)
theorem k0_off16_inb : ∀ (v796 : BitVec 32) (k0_hw18 : k0_chk18 v796), ∀ a, (k0_off16 v796) a + S128x128.size a ≤ S4096x128.size a := fun v796 k0_hw18 => k0_hw18

def k0_dev31 (v0 : BitVec 32) : Nat :=
  let c0_i32_767 : BitVec 32 := 0#32
  let c1_i32_766 : BitVec 32 := 1#32
  let v839 : BitVec 32 := Scalar.muli v0 c1_i32_766
  let v840 : BitVec 32 := Scalar.addi c0_i32_767 v839
  v840.toNat
def k0_dev32 (v1 : BitVec 32) : Nat :=
  let c0_i32_774 : BitVec 32 := 0#32
  let c1_i32_773 : BitVec 32 := 1#32
  let v847 : BitVec 32 := Scalar.muli v1 c1_i32_773
  let v848 : BitVec 32 := Scalar.addi c0_i32_774 v847
  v848.toNat
def k0_dev33 (v0 : BitVec 32) : Nat :=
  let c0_i32_817 : BitVec 32 := 0#32
  let c1_i32_816 : BitVec 32 := 1#32
  let v889 : BitVec 32 := Scalar.muli v0 c1_i32_816
  let v890 : BitVec 32 := Scalar.addi c0_i32_817 v889
  v890.toNat
def k0_dev34 (v1 : BitVec 32) : Nat :=
  let c0_i32_824 : BitVec 32 := 0#32
  let c1_i32_823 : BitVec 32 := 1#32
  let v897 : BitVec 32 := Scalar.muli v1 c1_i32_823
  let v898 : BitVec 32 := Scalar.addi c0_i32_824 v897
  v898.toNat
def k0_off17 (v905 : BitVec 32) : Fin 2 → Nat :=
  let c128_i32_827 : BitVec 32 := 128#32
  let v906 : BitVec 32 := Scalar.muli v905 c128_i32_827
  let v907 : Index := Scalar.indexCast v906
  let c0_828 : Index := 0#32
  ![v907.toNat, 0]

def k0_chk19 (v905 : BitVec 32) : Prop :=
  (∀ a, (k0_off17 v905) a + S128x128.size a ≤ S4096x128.size a)
theorem k0_off17_inb : ∀ (v905 : BitVec 32) (k0_hw19 : k0_chk19 v905), ∀ a, (k0_off17 v905) a + S128x128.size a ≤ S4096x128.size a := fun v905 k0_hw19 => k0_hw19

def k0_off18 (v914 : BitVec 32) : Fin 2 → Nat :=
  let c128_i32_833 : BitVec 32 := 128#32
  let v915 : BitVec 32 := Scalar.muli v914 c128_i32_833
  let v916 : Index := Scalar.indexCast v915
  let c0_834 : Index := 0#32
  ![v916.toNat, 0]

def k0_chk20 (v914 : BitVec 32) : Prop :=
  (∀ a, (k0_off18 v914) a + S128x128.size a ≤ S4096x128.size a)
theorem k0_off18_inb : ∀ (v914 : BitVec 32) (k0_hw20 : k0_chk20 v914), ∀ a, (k0_off18 v914) a + S128x128.size a ≤ S4096x128.size a := fun v914 k0_hw20 => k0_hw20

def k0_dev35 (v0 : BitVec 32) : Nat :=
  let c0_i32_877 : BitVec 32 := 0#32
  let c1_i32_876 : BitVec 32 := 1#32
  let v957 : BitVec 32 := Scalar.muli v0 c1_i32_876
  let v958 : BitVec 32 := Scalar.addi c0_i32_877 v957
  v958.toNat
def k0_dev36 (v1 : BitVec 32) : Nat :=
  let c0_i32_884 : BitVec 32 := 0#32
  let c1_i32_883 : BitVec 32 := 1#32
  let v965 : BitVec 32 := Scalar.muli v1 c1_i32_883
  let v966 : BitVec 32 := Scalar.addi c0_i32_884 v965
  v966.toNat
def k0_dev37 (v0 : BitVec 32) : Nat :=
  let c0_i32_927 : BitVec 32 := 0#32
  let c1_i32_926 : BitVec 32 := 1#32
  let v1007 : BitVec 32 := Scalar.muli v0 c1_i32_926
  let v1008 : BitVec 32 := Scalar.addi c0_i32_927 v1007
  v1008.toNat
def k0_dev38 (v1 : BitVec 32) : Nat :=
  let c0_i32_934 : BitVec 32 := 0#32
  let c1_i32_933 : BitVec 32 := 1#32
  let v1015 : BitVec 32 := Scalar.muli v1 c1_i32_933
  let v1016 : BitVec 32 := Scalar.addi c0_i32_934 v1015
  v1016.toNat
def k0_off19 (v1023 : BitVec 32) : Fin 2 → Nat :=
  let c128_i32_937 : BitVec 32 := 128#32
  let v1024 : BitVec 32 := Scalar.muli v1023 c128_i32_937
  let v1025 : Index := Scalar.indexCast v1024
  let c0_938 : Index := 0#32
  ![v1025.toNat, 0]

def k0_chk21 (v1023 : BitVec 32) : Prop :=
  (∀ a, (k0_off19 v1023) a + S128x128.size a ≤ S4096x128.size a)
theorem k0_off19_inb : ∀ (v1023 : BitVec 32) (k0_hw21 : k0_chk21 v1023), ∀ a, (k0_off19 v1023) a + S128x128.size a ≤ S4096x128.size a := fun v1023 k0_hw21 => k0_hw21

def k0_off20 (v1032 : BitVec 32) : Fin 2 → Nat :=
  let c128_i32_943 : BitVec 32 := 128#32
  let v1033 : BitVec 32 := Scalar.muli v1032 c128_i32_943
  let v1034 : Index := Scalar.indexCast v1033
  let c0_944 : Index := 0#32
  ![v1034.toNat, 0]

def k0_chk22 (v1032 : BitVec 32) : Prop :=
  (∀ a, (k0_off20 v1032) a + S128x128.size a ≤ S4096x128.size a)
theorem k0_off20_inb : ∀ (v1032 : BitVec 32) (k0_hw22 : k0_chk22 v1032), ∀ a, (k0_off20 v1032) a + S128x128.size a ≤ S4096x128.size a := fun v1032 k0_hw22 => k0_hw22

def k0_dev39 (v0 : BitVec 32) : Nat :=
  let c0_i32_987 : BitVec 32 := 0#32
  let c1_i32_986 : BitVec 32 := 1#32
  let v1075 : BitVec 32 := Scalar.muli v0 c1_i32_986
  let v1076 : BitVec 32 := Scalar.addi c0_i32_987 v1075
  v1076.toNat
def k0_dev40 (v1 : BitVec 32) : Nat :=
  let c0_i32_994 : BitVec 32 := 0#32
  let c1_i32_993 : BitVec 32 := 1#32
  let v1083 : BitVec 32 := Scalar.muli v1 c1_i32_993
  let v1084 : BitVec 32 := Scalar.addi c0_i32_994 v1083
  v1084.toNat
def k0_dev41 (v0 : BitVec 32) : Nat :=
  let c0_i32_1037 : BitVec 32 := 0#32
  let c1_i32_1036 : BitVec 32 := 1#32
  let v1125 : BitVec 32 := Scalar.muli v0 c1_i32_1036
  let v1126 : BitVec 32 := Scalar.addi c0_i32_1037 v1125
  v1126.toNat
def k0_dev42 (v1 : BitVec 32) : Nat :=
  let c0_i32_1044 : BitVec 32 := 0#32
  let c1_i32_1043 : BitVec 32 := 1#32
  let v1133 : BitVec 32 := Scalar.muli v1 c1_i32_1043
  let v1134 : BitVec 32 := Scalar.addi c0_i32_1044 v1133
  v1134.toNat
def k0_off21 (v1141 : BitVec 32) : Fin 2 → Nat :=
  let c128_i32_1047 : BitVec 32 := 128#32
  let v1142 : BitVec 32 := Scalar.muli v1141 c128_i32_1047
  let v1143 : Index := Scalar.indexCast v1142
  let c0_1048 : Index := 0#32
  ![v1143.toNat, 0]

def k0_chk23 (v1141 : BitVec 32) : Prop :=
  (∀ a, (k0_off21 v1141) a + S128x128.size a ≤ S4096x128.size a)
theorem k0_off21_inb : ∀ (v1141 : BitVec 32) (k0_hw23 : k0_chk23 v1141), ∀ a, (k0_off21 v1141) a + S128x128.size a ≤ S4096x128.size a := fun v1141 k0_hw23 => k0_hw23

def k0_off22 (v1150 : BitVec 32) : Fin 2 → Nat :=
  let c128_i32_1053 : BitVec 32 := 128#32
  let v1151 : BitVec 32 := Scalar.muli v1150 c128_i32_1053
  let v1152 : Index := Scalar.indexCast v1151
  let c0_1054 : Index := 0#32
  ![v1152.toNat, 0]

def k0_chk24 (v1150 : BitVec 32) : Prop :=
  (∀ a, (k0_off22 v1150) a + S128x128.size a ≤ S4096x128.size a)
theorem k0_off22_inb : ∀ (v1150 : BitVec 32) (k0_hw24 : k0_chk24 v1150), ∀ a, (k0_off22 v1150) a + S128x128.size a ≤ S4096x128.size a := fun v1150 k0_hw24 => k0_hw24

def k0_dev43 (v0 : BitVec 32) : Nat :=
  let c0_i32_1097 : BitVec 32 := 0#32
  let c1_i32_1096 : BitVec 32 := 1#32
  let v1193 : BitVec 32 := Scalar.muli v0 c1_i32_1096
  let v1194 : BitVec 32 := Scalar.addi c0_i32_1097 v1193
  v1194.toNat
def k0_dev44 (v1 : BitVec 32) : Nat :=
  let c0_i32_1104 : BitVec 32 := 0#32
  let c1_i32_1103 : BitVec 32 := 1#32
  let v1201 : BitVec 32 := Scalar.muli v1 c1_i32_1103
  let v1202 : BitVec 32 := Scalar.addi c0_i32_1104 v1201
  v1202.toNat
def k0_dev45 (v0 : BitVec 32) : Nat :=
  let c0_i32_1147 : BitVec 32 := 0#32
  let c1_i32_1146 : BitVec 32 := 1#32
  let v1243 : BitVec 32 := Scalar.muli v0 c1_i32_1146
  let v1244 : BitVec 32 := Scalar.addi c0_i32_1147 v1243
  v1244.toNat
def k0_dev46 (v1 : BitVec 32) : Nat :=
  let c0_i32_1154 : BitVec 32 := 0#32
  let c1_i32_1153 : BitVec 32 := 1#32
  let v1251 : BitVec 32 := Scalar.muli v1 c1_i32_1153
  let v1252 : BitVec 32 := Scalar.addi c0_i32_1154 v1251
  v1252.toNat
def k0_off23 (v1259 : BitVec 32) : Fin 2 → Nat :=
  let c128_i32_1157 : BitVec 32 := 128#32
  let v1260 : BitVec 32 := Scalar.muli v1259 c128_i32_1157
  let v1261 : Index := Scalar.indexCast v1260
  let c0_1158 : Index := 0#32
  ![v1261.toNat, 0]

def k0_chk25 (v1259 : BitVec 32) : Prop :=
  (∀ a, (k0_off23 v1259) a + S128x128.size a ≤ S4096x128.size a)
theorem k0_off23_inb : ∀ (v1259 : BitVec 32) (k0_hw25 : k0_chk25 v1259), ∀ a, (k0_off23 v1259) a + S128x128.size a ≤ S4096x128.size a := fun v1259 k0_hw25 => k0_hw25

def k0_off24 (v1268 : BitVec 32) : Fin 2 → Nat :=
  let c128_i32_1163 : BitVec 32 := 128#32
  let v1269 : BitVec 32 := Scalar.muli v1268 c128_i32_1163
  let v1270 : Index := Scalar.indexCast v1269
  let c0_1164 : Index := 0#32
  ![v1270.toNat, 0]

def k0_chk26 (v1268 : BitVec 32) : Prop :=
  (∀ a, (k0_off24 v1268) a + S128x128.size a ≤ S4096x128.size a)
theorem k0_off24_inb : ∀ (v1268 : BitVec 32) (k0_hw26 : k0_chk26 v1268), ∀ a, (k0_off24 v1268) a + S128x128.size a ≤ S4096x128.size a := fun v1268 k0_hw26 => k0_hw26

def k0_dev47 (v0 : BitVec 32) : Nat :=
  let c0_i32_1207 : BitVec 32 := 0#32
  let c1_i32_1206 : BitVec 32 := 1#32
  let v1311 : BitVec 32 := Scalar.muli v0 c1_i32_1206
  let v1312 : BitVec 32 := Scalar.addi c0_i32_1207 v1311
  v1312.toNat
def k0_dev48 (v1 : BitVec 32) : Nat :=
  let c0_i32_1214 : BitVec 32 := 0#32
  let c1_i32_1213 : BitVec 32 := 1#32
  let v1319 : BitVec 32 := Scalar.muli v1 c1_i32_1213
  let v1320 : BitVec 32 := Scalar.addi c0_i32_1214 v1319
  v1320.toNat
def k0_dev49 (v0 : BitVec 32) : Nat :=
  let c0_i32_1257 : BitVec 32 := 0#32
  let c1_i32_1256 : BitVec 32 := 1#32
  let v1361 : BitVec 32 := Scalar.muli v0 c1_i32_1256
  let v1362 : BitVec 32 := Scalar.addi c0_i32_1257 v1361
  v1362.toNat
def k0_dev50 (v1 : BitVec 32) : Nat :=
  let c0_i32_1264 : BitVec 32 := 0#32
  let c1_i32_1263 : BitVec 32 := 1#32
  let v1369 : BitVec 32 := Scalar.muli v1 c1_i32_1263
  let v1370 : BitVec 32 := Scalar.addi c0_i32_1264 v1369
  v1370.toNat
def k0_off25 (v1377 : BitVec 32) : Fin 2 → Nat :=
  let c128_i32_1267 : BitVec 32 := 128#32
  let v1378 : BitVec 32 := Scalar.muli v1377 c128_i32_1267
  let v1379 : Index := Scalar.indexCast v1378
  let c0_1268 : Index := 0#32
  ![v1379.toNat, 0]

def k0_chk27 (v1377 : BitVec 32) : Prop :=
  (∀ a, (k0_off25 v1377) a + S128x128.size a ≤ S4096x128.size a)
theorem k0_off25_inb : ∀ (v1377 : BitVec 32) (k0_hw27 : k0_chk27 v1377), ∀ a, (k0_off25 v1377) a + S128x128.size a ≤ S4096x128.size a := fun v1377 k0_hw27 => k0_hw27

def k0_off26 (v1386 : BitVec 32) : Fin 2 → Nat :=
  let c128_i32_1273 : BitVec 32 := 128#32
  let v1387 : BitVec 32 := Scalar.muli v1386 c128_i32_1273
  let v1388 : Index := Scalar.indexCast v1387
  let c0_1274 : Index := 0#32
  ![v1388.toNat, 0]

def k0_chk28 (v1386 : BitVec 32) : Prop :=
  (∀ a, (k0_off26 v1386) a + S128x128.size a ≤ S4096x128.size a)
theorem k0_off26_inb : ∀ (v1386 : BitVec 32) (k0_hw28 : k0_chk28 v1386), ∀ a, (k0_off26 v1386) a + S128x128.size a ≤ S4096x128.size a := fun v1386 k0_hw28 => k0_hw28

def k0_dev51 (v0 : BitVec 32) : Nat :=
  let c0_i32_1317 : BitVec 32 := 0#32
  let c1_i32_1316 : BitVec 32 := 1#32
  let v1429 : BitVec 32 := Scalar.muli v0 c1_i32_1316
  let v1430 : BitVec 32 := Scalar.addi c0_i32_1317 v1429
  v1430.toNat
def k0_dev52 (v1 : BitVec 32) : Nat :=
  let c0_i32_1324 : BitVec 32 := 0#32
  let c1_i32_1323 : BitVec 32 := 1#32
  let v1437 : BitVec 32 := Scalar.muli v1 c1_i32_1323
  let v1438 : BitVec 32 := Scalar.addi c0_i32_1324 v1437
  v1438.toNat
def k0_dev53 (v0 : BitVec 32) : Nat :=
  let c0_i32_1367 : BitVec 32 := 0#32
  let c1_i32_1366 : BitVec 32 := 1#32
  let v1479 : BitVec 32 := Scalar.muli v0 c1_i32_1366
  let v1480 : BitVec 32 := Scalar.addi c0_i32_1367 v1479
  v1480.toNat
def k0_dev54 (v1 : BitVec 32) : Nat :=
  let c0_i32_1374 : BitVec 32 := 0#32
  let c1_i32_1373 : BitVec 32 := 1#32
  let v1487 : BitVec 32 := Scalar.muli v1 c1_i32_1373
  let v1488 : BitVec 32 := Scalar.addi c0_i32_1374 v1487
  v1488.toNat
def k0_off27 (v1495 : BitVec 32) : Fin 2 → Nat :=
  let c128_i32_1377 : BitVec 32 := 128#32
  let v1496 : BitVec 32 := Scalar.muli v1495 c128_i32_1377
  let v1497 : Index := Scalar.indexCast v1496
  let c0_1378 : Index := 0#32
  ![v1497.toNat, 0]

def k0_chk29 (v1495 : BitVec 32) : Prop :=
  (∀ a, (k0_off27 v1495) a + S128x128.size a ≤ S4096x128.size a)
theorem k0_off27_inb : ∀ (v1495 : BitVec 32) (k0_hw29 : k0_chk29 v1495), ∀ a, (k0_off27 v1495) a + S128x128.size a ≤ S4096x128.size a := fun v1495 k0_hw29 => k0_hw29

def k0_off28 (v1504 : BitVec 32) : Fin 2 → Nat :=
  let c128_i32_1383 : BitVec 32 := 128#32
  let v1505 : BitVec 32 := Scalar.muli v1504 c128_i32_1383
  let v1506 : Index := Scalar.indexCast v1505
  let c0_1384 : Index := 0#32
  ![v1506.toNat, 0]

def k0_chk30 (v1504 : BitVec 32) : Prop :=
  (∀ a, (k0_off28 v1504) a + S128x128.size a ≤ S4096x128.size a)
theorem k0_off28_inb : ∀ (v1504 : BitVec 32) (k0_hw30 : k0_chk30 v1504), ∀ a, (k0_off28 v1504) a + S128x128.size a ≤ S4096x128.size a := fun v1504 k0_hw30 => k0_hw30

def k0_dev55 (v0 : BitVec 32) : Nat :=
  let c0_i32_1427 : BitVec 32 := 0#32
  let c1_i32_1426 : BitVec 32 := 1#32
  let v1547 : BitVec 32 := Scalar.muli v0 c1_i32_1426
  let v1548 : BitVec 32 := Scalar.addi c0_i32_1427 v1547
  v1548.toNat
def k0_dev56 (v1 : BitVec 32) : Nat :=
  let c0_i32_1434 : BitVec 32 := 0#32
  let c1_i32_1433 : BitVec 32 := 1#32
  let v1555 : BitVec 32 := Scalar.muli v1 c1_i32_1433
  let v1556 : BitVec 32 := Scalar.addi c0_i32_1434 v1555
  v1556.toNat
def k0_dev57 (v0 : BitVec 32) : Nat :=
  let c0_i32_1477 : BitVec 32 := 0#32
  let c1_i32_1476 : BitVec 32 := 1#32
  let v1597 : BitVec 32 := Scalar.muli v0 c1_i32_1476
  let v1598 : BitVec 32 := Scalar.addi c0_i32_1477 v1597
  v1598.toNat
def k0_dev58 (v1 : BitVec 32) : Nat :=
  let c0_i32_1484 : BitVec 32 := 0#32
  let c1_i32_1483 : BitVec 32 := 1#32
  let v1605 : BitVec 32 := Scalar.muli v1 c1_i32_1483
  let v1606 : BitVec 32 := Scalar.addi c0_i32_1484 v1605
  v1606.toNat
def k0_off29 (v1613 : BitVec 32) : Fin 2 → Nat :=
  let c128_i32_1487 : BitVec 32 := 128#32
  let v1614 : BitVec 32 := Scalar.muli v1613 c128_i32_1487
  let v1615 : Index := Scalar.indexCast v1614
  let c0_1488 : Index := 0#32
  ![v1615.toNat, 0]

def k0_chk31 (v1613 : BitVec 32) : Prop :=
  (∀ a, (k0_off29 v1613) a + S128x128.size a ≤ S4096x128.size a)
theorem k0_off29_inb : ∀ (v1613 : BitVec 32) (k0_hw31 : k0_chk31 v1613), ∀ a, (k0_off29 v1613) a + S128x128.size a ≤ S4096x128.size a := fun v1613 k0_hw31 => k0_hw31

def k0_off30 (v1622 : BitVec 32) : Fin 2 → Nat :=
  let c128_i32_1493 : BitVec 32 := 128#32
  let v1623 : BitVec 32 := Scalar.muli v1622 c128_i32_1493
  let v1624 : Index := Scalar.indexCast v1623
  let c0_1494 : Index := 0#32
  ![v1624.toNat, 0]

def k0_chk32 (v1622 : BitVec 32) : Prop :=
  (∀ a, (k0_off30 v1622) a + S128x128.size a ≤ S4096x128.size a)
theorem k0_off30_inb : ∀ (v1622 : BitVec 32) (k0_hw32 : k0_chk32 v1622), ∀ a, (k0_off30 v1622) a + S128x128.size a ≤ S4096x128.size a := fun v1622 k0_hw32 => k0_hw32

def k0_dev59 (v0 : BitVec 32) : Nat :=
  let c0_i32_1537 : BitVec 32 := 0#32
  let c1_i32_1536 : BitVec 32 := 1#32
  let v1665 : BitVec 32 := Scalar.muli v0 c1_i32_1536
  let v1666 : BitVec 32 := Scalar.addi c0_i32_1537 v1665
  v1666.toNat
def k0_dev60 (v1 : BitVec 32) : Nat :=
  let c0_i32_1544 : BitVec 32 := 0#32
  let c1_i32_1543 : BitVec 32 := 1#32
  let v1673 : BitVec 32 := Scalar.muli v1 c1_i32_1543
  let v1674 : BitVec 32 := Scalar.addi c0_i32_1544 v1673
  v1674.toNat
def k0_dev61 (v0 : BitVec 32) : Nat :=
  let c0_i32_1587 : BitVec 32 := 0#32
  let c1_i32_1586 : BitVec 32 := 1#32
  let v1715 : BitVec 32 := Scalar.muli v0 c1_i32_1586
  let v1716 : BitVec 32 := Scalar.addi c0_i32_1587 v1715
  v1716.toNat
def k0_dev62 (v1 : BitVec 32) : Nat :=
  let c0_i32_1594 : BitVec 32 := 0#32
  let c1_i32_1593 : BitVec 32 := 1#32
  let v1723 : BitVec 32 := Scalar.muli v1 c1_i32_1593
  let v1724 : BitVec 32 := Scalar.addi c0_i32_1594 v1723
  v1724.toNat

def k0_chk1 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev12_lt : ∀ (v1 : BitVec 32) (k0_hw1 : k0_chk1 v1), (k0_dev12 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev32_lt : ∀ (v1 : BitVec 32) (k0_hw1 : k0_chk1 v1), (k0_dev32 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev36_lt : ∀ (v1 : BitVec 32) (k0_hw1 : k0_chk1 v1), (k0_dev36 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev40_lt : ∀ (v1 : BitVec 32) (k0_hw1 : k0_chk1 v1), (k0_dev40 v1) < nD := fun v1 k0_hw1 => k0_hw1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.2.2.2.2.2.2.2.2.2.2.2.2.2.2.2.2.2.2.2.2.2.2.2.2.2.2.2.2.2.2

def k0_off31 (v1731 : BitVec 32) : Fin 2 → Nat :=
  let c128_i32_1597 : BitVec 32 := 128#32
  let v1732 : BitVec 32 := Scalar.muli v1731 c128_i32_1597
  let v1733 : Index := Scalar.indexCast v1732
  let c0_1598 : Index := 0#32
  ![v1733.toNat, 0]

def k0_chk33 (v1731 : BitVec 32) : Prop :=
  (∀ a, (k0_off31 v1731) a + S128x128.size a ≤ S4096x128.size a)
theorem k0_off31_inb : ∀ (v1731 : BitVec 32) (k0_hw33 : k0_chk33 v1731), ∀ a, (k0_off31 v1731) a + S128x128.size a ≤ S4096x128.size a := fun v1731 k0_hw33 => k0_hw33

def k0_dev63 (v0 : BitVec 32) : Nat :=
  let c0_i32_1636 : BitVec 32 := 0#32
  let c1_i32_1635 : BitVec 32 := 1#32
  let v1767 : BitVec 32 := Scalar.muli v0 c1_i32_1635
  let v1768 : BitVec 32 := Scalar.addi c0_i32_1636 v1767
  v1768.toNat
def k0_dev64 (v0 : BitVec 32) : Nat :=
  let c0_i32_1674 : BitVec 32 := 0#32
  let c1_i32_1673 : BitVec 32 := 1#32
  let v1802 : BitVec 32 := Scalar.muli v0 c1_i32_1673
  let v1803 : BitVec 32 := Scalar.addi c0_i32_1674 v1802
  v1803.toNat

def k0_chk2_0 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD) ∧
  ((k0_dev63 v0) < nD)
def k0_chk2_1 (v0 : BitVec 32) : Prop :=
  ((k0_dev64 v0) < nD)
def k0_chk2 (v0 : BitVec 32) : Prop :=
  k0_chk2_0 v0 ∧
  k0_chk2_1 v0
theorem k0_dev2_lt : ∀ (v0 : BitVec 32) (k0_hw2 : k0_chk2 v0), (k0_dev2 v0) < nD := fun v0 k0_hw2 => k0_hw2.1.1
theorem k0_dev3_lt : ∀ (v0 : BitVec 32) (k0_hw2 : k0_chk2 v0), (k0_dev3 v0) < nD := fun v0 k0_hw2 => k0_hw2.1.2.1
theorem k0_dev5_lt : ∀ (v0 : BitVec 32) (k0_hw2 : k0_chk2 v0), (k0_dev5 v0) < nD := fun v0 k0_hw2 => k0_hw2.1.2.2.1
theorem k0_dev7_lt : ∀ (v0 : BitVec 32) (k0_hw2 : k0_chk2 v0), (k0_dev7 v0) < nD := fun v0 k0_hw2 => k0_hw2.1.2.2.2.1
theorem k0_dev9_lt : ∀ (v0 : BitVec 32) (k0_hw2 : k0_chk2 v0), (k0_dev9 v0) < nD := fun v0 k0_hw2 => k0_hw2.1.2.2.2.2.1
theorem k0_dev11_lt : ∀ (v0 : BitVec 32) (k0_hw2 : k0_chk2 v0), (k0_dev11 v0) < nD := fun v0 k0_hw2 => k0_hw2.1.2.2.2.2.2.1
theorem k0_dev13_lt : ∀ (v0 : BitVec 32) (k0_hw2 : k0_chk2 v0), (k0_dev13 v0) < nD := fun v0 k0_hw2 => k0_hw2.1.2.2.2.2.2.2.1
theorem k0_dev15_lt : ∀ (v0 : BitVec 32) (k0_hw2 : k0_chk2 v0), (k0_dev15 v0) < nD := fun v0 k0_hw2 => k0_hw2.1.2.2.2.2.2.2.2.1
theorem k0_dev17_lt : ∀ (v0 : BitVec 32) (k0_hw2 : k0_chk2 v0), (k0_dev17 v0) < nD := fun v0 k0_hw2 => k0_hw2.1.2.2.2.2.2.2.2.2.1
theorem k0_dev19_lt : ∀ (v0 : BitVec 32) (k0_hw2 : k0_chk2 v0), (k0_dev19 v0) < nD := fun v0 k0_hw2 => k0_hw2.1.2.2.2.2.2.2.2.2.2.1
theorem k0_dev21_lt : ∀ (v0 : BitVec 32) (k0_hw2 : k0_chk2 v0), (k0_dev21 v0) < nD := fun v0 k0_hw2 => k0_hw2.1.2.2.2.2.2.2.2.2.2.2.1
theorem k0_dev23_lt : ∀ (v0 : BitVec 32) (k0_hw2 : k0_chk2 v0), (k0_dev23 v0) < nD := fun v0 k0_hw2 => k0_hw2.1.2.2.2.2.2.2.2.2.2.2.2.1
theorem k0_dev25_lt : ∀ (v0 : BitVec 32) (k0_hw2 : k0_chk2 v0), (k0_dev25 v0) < nD := fun v0 k0_hw2 => k0_hw2.1.2.2.2.2.2.2.2.2.2.2.2.2.1
theorem k0_dev27_lt : ∀ (v0 : BitVec 32) (k0_hw2 : k0_chk2 v0), (k0_dev27 v0) < nD := fun v0 k0_hw2 => k0_hw2.1.2.2.2.2.2.2.2.2.2.2.2.2.2.1
theorem k0_dev29_lt : ∀ (v0 : BitVec 32) (k0_hw2 : k0_chk2 v0), (k0_dev29 v0) < nD := fun v0 k0_hw2 => k0_hw2.1.2.2.2.2.2.2.2.2.2.2.2.2.2.2.1
theorem k0_dev31_lt : ∀ (v0 : BitVec 32) (k0_hw2 : k0_chk2 v0), (k0_dev31 v0) < nD := fun v0 k0_hw2 => k0_hw2.1.2.2.2.2.2.2.2.2.2.2.2.2.2.2.2.1
theorem k0_dev33_lt : ∀ (v0 : BitVec 32) (k0_hw2 : k0_chk2 v0), (k0_dev33 v0) < nD := fun v0 k0_hw2 => k0_hw2.1.2.2.2.2.2.2.2.2.2.2.2.2.2.2.2.2.1
theorem k0_dev35_lt : ∀ (v0 : BitVec 32) (k0_hw2 : k0_chk2 v0), (k0_dev35 v0) < nD := fun v0 k0_hw2 => k0_hw2.1.2.2.2.2.2.2.2.2.2.2.2.2.2.2.2.2.2.1
theorem k0_dev37_lt : ∀ (v0 : BitVec 32) (k0_hw2 : k0_chk2 v0), (k0_dev37 v0) < nD := fun v0 k0_hw2 => k0_hw2.1.2.2.2.2.2.2.2.2.2.2.2.2.2.2.2.2.2.2.1
theorem k0_dev39_lt : ∀ (v0 : BitVec 32) (k0_hw2 : k0_chk2 v0), (k0_dev39 v0) < nD := fun v0 k0_hw2 => k0_hw2.1.2.2.2.2.2.2.2.2.2.2.2.2.2.2.2.2.2.2.2.1
theorem k0_dev41_lt : ∀ (v0 : BitVec 32) (k0_hw2 : k0_chk2 v0), (k0_dev41 v0) < nD := fun v0 k0_hw2 => k0_hw2.1.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.1.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.1.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.1.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.1.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.1.2.2.2.2.2.2.2.2.2.2.2.2.2.2.2.2.2.2.2.2.2.2.2.2.2.1
theorem k0_dev53_lt : ∀ (v0 : BitVec 32) (k0_hw2 : k0_chk2 v0), (k0_dev53 v0) < nD := fun v0 k0_hw2 => k0_hw2.1.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.1.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.1.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.1.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.1.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.1.2.2.2.2.2.2.2.2.2.2.2.2.2.2.2.2.2.2.2.2.2.2.2.2.2.2.2.2.2.2.2
theorem k0_dev64_lt : ∀ (v0 : BitVec 32) (k0_hw2 : k0_chk2 v0), (k0_dev64 v0) < nD := fun v0 k0_hw2 => k0_hw2.2

def k0_off32 (d1810 : Dev nD) : Fin 2 → Nat :=
  let v1810 : BitVec 32 := Dev.word d1810
  let c1_i32_1677 : BitVec 32 := 1#32
  let v1811 : BitVec 32 := Scalar.divsi v1810 c1_i32_1677
  let c32_i32 : BitVec 32 := 32#32
  let v1812 : BitVec 32 := Scalar.remsi v1811 c32_i32
  let c128_i32_1678 : BitVec 32 := 128#32
  let v1813 : BitVec 32 := Scalar.muli v1812 c128_i32_1678
  let v1814 : Index := Scalar.indexCast v1813
  let c0_1679 : Index := 0#32
  ![v1814.toNat, 0]
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S15 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Shape.lean ====
/-
The kernel's body as a short program: the same operations in the same order, with the unrolled ring
steps folded into a recursion.

Four flows of partial sums run round the ring at once.  A flow is named by two booleans: `d`, its
direction (`false` to the right-hand neighbour, `true` to the left-hand one), and `h`, the half of the
columns it carries (`false` for columns 0 to 1023, `true` for 1024 to 2047).  A flow to the right makes
16 hops, one to the left 15.
-/
module

public import proofs.«01_k».proof.Proof.Gen.KernelIdeal.Skeleton

@[expose] public section

noncomputable section

namespace Cert.KernelIdeal.Ring

open Idealize.ShloMosaic Idealize.SL.Sem
open Cert.KernelIdeal Cert.KernelIdeal.Gen

variable [Facts]
variable {F : FTy → Type} [FloatOps F]

/-- Programs of the kernel. -/
abbrev P (F : FTy → Type) [FloatOps F] (α : Type) := Prog (TpuEff nD τ sig (Elt F) Λ₀ .tc) α

/-- How many hops a flow makes. -/
def cnt (d : Bool) : Nat := match d with | false => 16 | true => 15

theorem cnt_le (d : Bool) : cnt d ≤ 16 := by cases d <;> decide
theorem le_cnt (d : Bool) : 15 ≤ cnt d := by cases d <;> decide

/-- The buffer a flow is sent from. -/
abbrev sbuf (d h : Bool) : Memref sig .tc .vmem S128x1024 .bf16 :=
  match d, h with
  | false, false => Memref.whole cc0_scratch1
  | false, true => Memref.whole cc0_scratch2
  | true, false => Memref.whole cc0_scratch3
  | true, true => Memref.whole cc0_scratch4

/-- The pair of buffers a flow is received in. -/
abbrev rbuf (d h : Bool) : Memref sig .tc .vmem S2x128x1024 .bf16 :=
  match d, h with
  | false, false => Memref.whole cc0_scratch5
  | false, true => Memref.whole cc0_scratch6
  | true, false => Memref.whole cc0_scratch7
  | true, true => Memref.whole cc0_scratch8

theorem sbuf_whole (d h : Bool) : (sbuf d h).IsWhole := by
  cases d <;> cases h <;> exact Memref.isWhole_whole _

theorem rbuf_whole (d h : Bool) : (rbuf d h).IsWhole := by
  cases d <;> cases h <;> exact Memref.isWhole_whole _

theorem inb4 {i : Nat} (hi : i < 4) : ∀ a, (![i] : Fin 1 → Nat) a + S1.size a ≤ S4.size a := by
  intro a; fin_cases a; exact hi
theorem inb16 {i : Nat} (hi : i < 16) : ∀ a, (![i] : Fin 1 → Nat) a + S1.size a ≤ S16.size a := by
  intro a; fin_cases a; exact hi
theorem inb15 {i : Nat} (hi : i < 15) : ∀ a, (![i] : Fin 1 → Nat) a + S1.size a ≤ S15.size a := by
  intro a; fin_cases a; exact hi

/-- The semaphore that says a flow's send buffer has been read. -/
def ssem (d h : Bool) : DmaSem sig :=
  match d, h with
  | false, false => ((cc0_scratch9.slice (Rect.unit (s := S4) ![0] S1.size inb_S4_S1_0)).squeeze S_ squeezes_S1_S_).sem
  | false, true => ((cc0_scratch9.slice (Rect.unit (s := S4) ![1] S1.size inb_S4_S1_1)).squeeze S_ squeezes_S1_S_).sem
  | true, false => ((cc0_scratch9.slice (Rect.unit (s := S4) ![2] S1.size inb_S4_S1_2)).squeeze S_ squeezes_S1_S_).sem
  | true, true => ((cc0_scratch9.slice (Rect.unit (s := S4) ![3] S1.size inb_S4_S1_3)).squeeze S_ squeezes_S1_S_).sem

/-- The semaphore that says hop `t` of a flow has arrived. -/
def rsem (d h : Bool) (t : Nat) (ht : t < cnt d) : DmaSem sig :=
  match d, h, ht with
  | false, false, ht => ((cc0_scratch10.slice (Rect.unit (s := S16) ![t] S1.size (inb16 ht))).squeeze S_ squeezes_S1_S_).sem
  | false, true, ht => ((cc0_scratch11.slice (Rect.unit (s := S16) ![t] S1.size (inb16 ht))).squeeze S_ squeezes_S1_S_).sem
  | true, false, ht => ((cc0_scratch12.slice (Rect.unit (s := S15) ![t] S1.size (inb15 ht))).squeeze S_ squeezes_S1_S_).sem
  | true, true, ht => ((cc0_scratch13.slice (Rect.unit (s := S15) ![t] S1.size (inb15 ht))).squeeze S_ squeezes_S1_S_).sem

theorem inbSlot (k : Nat) : ∀ a, (![k % 2, 0, 0] : Fin 3 → Nat) a + S1x128x1024.size a ≤ S2x128x1024.size a := by
  have := Nat.mod_lt k (show 0 < 2 by decide)
  intro a; fin_cases a
  · show k % 2 + 1 ≤ 2; omega
  · exact Nat.le_refl 128
  · exact Nat.le_refl 1024

/-- The buffer of the pair that hop `k` lands in, as a rectangle of the pair. -/
abbrev slotRect (k : Nat) : Rect S2x128x1024 :=
  Rect.unit (s := S2x128x1024) ![k % 2, 0, 0] S1x128x1024.size (inbSlot k)

/-- The buffer of the pair that hop `k` of a flow lands in. -/
abbrev slot (d h : Bool) (k : Nat) : Memref sig .tc .vmem S128x1024 .bf16 :=
  ((rbuf d h).slice (slotRect k) (fun _ => rfl)).squeeze S128x1024 squeezes_S1x128x1024_S128x1024

theorem slot_words_at (d h : Bool) (j : Nat) (hj : j = 0 ∨ j = 1)
    (inb : ∀ a, (![j, 0, 0] : Fin 3 → Nat) a + S1x128x1024.size a ≤ S2x128x1024.size a) :
    ((rbuf d h).view.slice (Rect.unit (s := S2x128x1024) ![j, 0, 0] S1x128x1024.size inb)).WordExact := by
  rcases hj with rfl | rfl
  · exact (rbuf_whole d h).wordExact_slice rfl _ wordsbf16_S2x128x1024_S1x128x1024_0_0_0
  · exact (rbuf_whole d h).wordExact_slice rfl _ wordsbf16_S2x128x1024_S1x128x1024_1_0_0

theorem slot_words (d h : Bool) (k : Nat) : (slot d h k).view.WordExact :=
  (slot_words_at d h (k % 2) (Nat.mod_two_eq_zero_or_one k) (inbSlot k)).reshape _ _

theorem sbuf_words (d h : Bool) : (sbuf d h).view.WordExact := (sbuf_whole d h).wordExact

/-! ## Arithmetic of the body -/

/-- The half of a product of 2048 columns that a flow carries. -/
def half (h : Bool) (p : FVec F S128x2048 .bf16) : FVec F S128x1024 .bf16 :=
  match h with | false => k0_pay6 p | true => k0_pay8 p

/-- What arrived plus the own half product. -/
def addIn (h : Bool) (p : FVec F S128x2048 .bf16) (v : Vec F S1x128x1024 .bf16) : FVec F S128x1024 .bf16 :=
  match h with | false => k0_pay12 p v | true => k0_pay14 p v

/-! ## Pieces -/

/-- The whole of a send buffer. -/
abbrev sRect : Rect S128x1024 := Rect.unit (s := S128x1024) ![0, 0] S128x1024.size inb_S128x1024_S128x1024_0_0

/-- Store into a send buffer, after the read of its old contents that is made and not used. -/
def stash (d h : Bool) (v : FVec F S128x1024 .bf16) : P F PUnit := do
  let _ ← Prog.lift (.load (sbuf d h) sRect.toLoadRect (View.loadsAt_vmem h_S128x1024))
  Prog.lift (.store (sbuf d h) sRect v Finset.univ (View.stores_vmem h_S128x1024 ((sbuf_whole d h).storeExact_slice rfl _ packedbf16_S128x1024_S128x1024_0_0) (fun _ => rfl)) (.inl rfl))

/-- Wait until hop `k` of a flow has left the send buffer and the neighbour's has arrived. -/
def waits (d h : Bool) (k : Nat) (hk : k < cnt d) : P F PUnit := do
  Prog.lift (.waitDma2 (ssem d h) (slot d h k) (sbuf d h) (slot_words d h k) (sbuf_words d h))
  Prog.lift (.waitDma2 (rsem d h k hk) (sbuf d h) (slot d h k) (sbuf_words d h) (slot_words d h k))

/-- Read what hop `k` brought. -/
def arrived (d h : Bool) (k : Nat) : P F (Vec F S1x128x1024 .bf16) :=
  Prog.lift (.load (rbuf d h) (slotRect k).toLoadRect (View.loadsAt_vmem h_S1x128x1024))

/-- Take hop `k` in and add the own part to it. -/
def take (d h : Bool) (k : Nat) (hk : k < cnt d) (p : FVec F S128x2048 .bf16) : P F PUnit := do
  waits d h k hk
  let v ← arrived d h k
  stash d h (addIn h p v)

/-- Start hop `k` of a flow, to the device `e`. -/
def send (d h : Bool) (k : Nat) (hk : k < cnt d) (e : Dev nD) : P F PUnit :=
  Prog.lift (.enqueueDma (sbuf d h) (.remote (Dev.tc e) (slot d h k) (.dma (ssem d h))) (.dma (rsem d h k hk)) (sbuf_words d h) (slot_words d h k) ⟨⟨rfl, Or.inl rfl⟩, trivial⟩)

/-- Read the block of right-hand factors, once it is in its wider format. -/
def loadW : P F (Vec F S128x2048 .bf16) :=
  Prog.lift (.load (Memref.whole cc0_scratch0) (Rect.unit (s := S128x2048) ![0, 0] S128x2048.size inb_S128x2048_S128x2048_0_0).toLoadRect (View.loadsAt_vmem h_S128x2048))

/-- The product of the rows a schedule word names with the own right-hand block. -/
def chunkOf (v : Elt F .i32) : P F (FVec F S128x2048 .bf16) := do
  have hw : k0_chk3 v := (← Prog.lift (TpuEff.assume (k0_chk3 v) (k0_chk3.dec v))).down
  let x ← Prog.lift (.load (Memref.whole cc0_stg0_0) (Rect.unit (s := S4096x128) (k0_off1 v) S128x128.size (k0_off1_inb v hw)).toLoadRect (View.loadsAt_vmem h_S128x128))
  let w ← loadW
  pure (k0_pay3 x w)

/-- Entry `k` of the right-hand schedule. -/
def wordR (k : Nat) (hk : k < 16) : P F (Elt F .i32) :=
  smemLoad (Memref.whole cc0_stg5_0) (Rect.unit (s := S16) ![k] S1.size (inb16 hk)) numel1_S1 rfl

/-- Entry `k` of the left-hand schedule. -/
def wordL (k : Nat) (hk : k < 15) : P F (Elt F .i32) :=
  smemLoad (Memref.whole cc0_stg6_0) (Rect.unit (s := S15) ![k] S1.size (inb15 hk)) numel1_S1 rfl

/-- The own part of hop `k` of a direction. -/
def chunk (d : Bool) (k : Nat) (hk : k < cnt d) : P F (FVec F S128x2048 .bf16) :=
  match d, hk with
  | false, hk => do let v ← wordR k hk; chunkOf v
  | true, hk => do let v ← wordL k hk; chunkOf v

/-! ## The body -/

/-- The devices two words of the table name. -/
def named (v0 v1 : BitVec 32) (h0 : k0_chk2 v0) (h1 : k0_chk1 v1) (d : Bool) : Dev nD :=
  match d with
  | false => ⟨k0_dev2 v0, k0_dev2_lt v0 h0⟩
  | true => ⟨k0_dev1 v1, k0_dev1_lt v1 h1⟩

/-- The two neighbours, from the table the host made: at `false` the right-hand one. -/
def neighbours : P F (Bool → Dev nD) := do
  let v0 ← smemLoad (Memref.whole cc0_stg4_0) (Rect.unit (s := S2) ![0] S1.size inb_S2_S1_0) numel1_S1 rfl
  have h0 : k0_chk2 v0 := (← Prog.lift (TpuEff.assume (k0_chk2 v0) (k0_chk2.dec v0))).down
  let v1 ← smemLoad (Memref.whole cc0_stg4_0) (Rect.unit (s := S2) ![1] S1.size inb_S2_S1_1) numel1_S1 rfl
  have h1 : k0_chk1 v1 := (← Prog.lift (TpuEff.assume (k0_chk1 v1) (k0_chk1.dec v1))).down
  pure (named v0 v1 h0 h1)

/-- The barrier's cell. -/
abbrev bsem : Sem sig := (SemArray.scalar (sig.barrier 0 rfl) : Sems sig S_).sem

/-- Tell the device `e` that its neighbour is here. -/
def greet (e : Dev nD) : P F PUnit := semSignalWord e bsem 1#32

/-- Bring the right-hand block into its wider format. -/
def widen : P F PUnit := do
  let w ← Prog.lift (.load (Memref.whole cc0_stg1_0) (Rect.unit (s := S128x2048) ![0, 0] S128x2048.size inb_S128x2048_S128x2048_0_0).toLoadRect (View.loadsAt_vmem h_S128x2048))
  let _ ← loadW
  Prog.lift (.store (Memref.whole cc0_scratch0) (Rect.unit (s := S128x2048) ![0, 0] S128x2048.size inb_S128x2048_S128x2048_0_0) (k0_pay2 w) Finset.univ (View.stores_vmem h_S128x2048 ((Memref.isWhole_whole cc0_scratch0).storeExact_slice rfl _ packedbf16_S128x2048_S128x2048_0_0) (fun _ => rfl)) (.inl rfl))

/-- The start: fill the four send buffers with the own parts, meet both neighbours, start hop 0. -/
def start (e : Bool → Dev nD) : P F PUnit := do
  greet (e true)
  greet (e false)
  widen
  let pr ← chunk false 0 (by decide)
  let pl ← chunk true 0 (by decide)
  stash false false (half false pr)
  stash true false (half false pl)
  stash false true (half true pr)
  stash true true (half true pl)
  semWaitWord bsem 2#32
  send false false 0 (by decide) (e false)
  send true false 0 (by decide) (e true)
  send false true 0 (by decide) (e false)
  send true true 0 (by decide) (e true)

/-- One half of a ring step: take hop `k` in for both directions, start hop `k + 1`. -/
def halfStep (e : Bool → Dev nD) (h : Bool) (k : Nat) (hk : k + 1 < 15) (pr pl : FVec F S128x2048 .bf16) : P F PUnit := do
  take false h k (lt_of_lt_of_le (Nat.lt_of_succ_lt hk) (le_cnt _)) pr
  take true h k (lt_of_lt_of_le (Nat.lt_of_succ_lt hk) (le_cnt _)) pl
  send false h (k + 1) (lt_of_lt_of_le hk (le_cnt _)) (e false)
  send true h (k + 1) (lt_of_lt_of_le hk (le_cnt _)) (e true)

/-- The ring step that takes hop `k` in. -/
def step (e : Bool → Dev nD) (k : Nat) (hk : k + 1 < 15) : P F PUnit := do
  let pr ← chunk false (k + 1) (lt_of_lt_of_le hk (le_cnt _))
  let pl ← chunk true (k + 1) (lt_of_lt_of_le hk (le_cnt _))
  halfStep e false k hk pr pl
  halfStep e true k hk pr pl

/-- `n` ring steps, the first of which takes hop `k` in. -/
def steps (e : Bool → Dev nD) (n k : Nat) (h : k + n < 15) : P F PUnit :=
  match n, h with
  | 0, _ => pure ⟨⟩
  | n + 1, h => do
    step e k (by omega)
    steps e n (k + 1) (by omega)

/-- One half of the last step: only the flow to the right goes on. -/
def lastHalf (e : Bool → Dev nD) (h : Bool) (pr : FVec F S128x2048 .bf16) : P F PUnit := do
  take false h 14 (by decide) pr
  waits true h 14 (by decide)
  send false h 15 (by decide) (e false)

/-- Where a half of the columns sits in the result. -/
def outRect (h : Bool) : Rect S128x2048 :=
  match h with
  | false => Rect.unit (s := S128x2048) ![0, 0] S128x1024.size inb_S128x2048_S128x1024_0_0
  | true => Rect.unit (s := S128x2048) ![0, 1024] S128x1024.size inb_S128x2048_S128x1024_0_1024

/-- A half of the result from the own product, the scale and what arrived from both sides. -/
def outHalf (h : Bool) (p : FVec F S128x2048 .f32) (s : F .f32) (r l : Vec F S1x128x1024 .bf16) : FVec F S128x1024 .f32 :=
  match h with
  | false => k0_pay109 p s r l
  | true => k0_pay1 p s r l

/-- Store a half of the result. -/
def putOut (h : Bool) (v : FVec F S128x1024 .f32) : P F PUnit :=
  match h with
  | false => do
    let _ ← Prog.lift (.load (Memref.whole cc0_stg7_0) (Rect.unit (s := S128x2048) ![0, 0] S128x1024.size inb_S128x2048_S128x1024_0_0).toLoadRect (View.loadsAt_vmem h_S128x1024))
    Prog.lift (.store (Memref.whole cc0_stg7_0) (Rect.unit (s := S128x2048) ![0, 0] S128x1024.size inb_S128x2048_S128x1024_0_0) v Finset.univ (View.stores_vmem_bits_univ h_S128x1024 rfl) (.inl rfl))
  | true => do
    let _ ← Prog.lift (.load (Memref.whole cc0_stg7_0) (Rect.unit (s := S128x2048) ![0, 1024] S128x1024.size inb_S128x2048_S128x1024_0_1024).toLoadRect (View.loadsAt_vmem h_S128x1024))
    Prog.lift (.store (Memref.whole cc0_stg7_0) (Rect.unit (s := S128x2048) ![0, 1024] S128x1024.size inb_S128x2048_S128x1024_0_1024) v Finset.univ (View.stores_vmem_bits_univ h_S128x1024 rfl) (.inl rfl))

/-- Finish a half of the result. -/
def finish (h : Bool) (p : FVec F S128x2048 .f32) (s : F .f32) : P F PUnit := do
  waits false h 15 (by decide)
  let r ← arrived false h 15
  let l ← arrived true h 14
  putOut h (outHalf h p s r l)

/-- The product of the device's own rows with its own right-hand block. -/
def own : P F (FVec F S128x2048 .f32) := do
  let d ← Prog.lift .deviceId
  let x ← Prog.lift (.load (Memref.whole cc0_stg0_0) (Rect.unit (s := S4096x128) (k0_off32 d) S128x128.size (k0_off32_inb d)).toLoadRect (View.loadsAt_vmem h_S128x128))
  let w ← loadW
  pure (k0_pay107 x w)

/-- The product of the two scales. -/
def scale : P F (F .f32) := do
  let sx ← smemLoad (Memref.whole cc0_stg2_0) (Rect.unit (s := S1) ![0] S1.size inb_S1_S1_0) numel1_S1 rfl
  let sw ← smemLoad (Memref.whole cc0_stg3_0) (Rect.unit (s := S1) ![0] S1.size inb_S1_S1_0) numel1_S1 rfl
  pure (k0_pay108 sx sw)

/-- The end: the last hop to the right, and the result from what arrived. -/
def ending (e : Bool → Dev nD) : P F PUnit := do
  let pr ← chunk false 15 (by decide)
  lastHalf e false pr
  lastHalf e true pr
  let p ← own
  let s ← scale
  finish false p s
  finish true p s

/-- The body. -/
def prog : P F PUnit := do
  let e ← neighbours
  start e
  steps e 14 0 (by decide)
  ending e

/-! ## The printed body is this program -/

theorem op_congr {E : Type → Type _} {α β : Type} {e : E β} {k k' : β → Prog E α} (h : ∀ a, k a = k' a) :
    Prog.op e k = Prog.op e k' := congrArg _ (funext h)

set_option maxRecDepth 65536 in
set_option maxHeartbeats 0 in
/-- The printed body runs the operations of `prog`, one by one. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) cc0_scratch9 cc0_scratch10 cc0_scratch11 cc0_scratch12 cc0_scratch13
      = prog := by
  rw [cc0_body_eq_skeleton]
  repeat refine op_congr fun _ => ?_
  rfl

end Cert.KernelIdeal.Ring
-- ==== Proof.Tables.lean ====
/-
The tables the host makes: a ring through all 32 devices, the place of each device on it, its two
neighbours, and which rows it works on at each hop.
-/
module

public import proofs.«01_k».proof.Proof.Shape
public import proofs.«01_k».proof.Proof.Gen.KernelIdeal.Regions
public import Idealize.ShloMosaic.Lib.StableHlo.ReadAt
public import Idealize.ShloMosaic.Lib.Routing.OpsSet

@[expose] public section

set_option maxRecDepth 4096

noncomputable section

namespace Cert.KernelIdeal.Ring

open Idealize.ShloMosaic Idealize.SL.Sem Idealize.ShloMosaic.TcCoe
open Cert.KernelIdeal Cert.KernelIdeal.Gen

variable {F : FTy → Type} [FloatOps F]

/-- The devices in the order of the ring. -/
def dev : Fin 32 → Dev nD := ![0, 8, 16, 24, 27, 19, 11, 3, 4, 12, 20, 28, 31, 23, 15, 7, 6, 14, 22, 30, 29, 21, 13, 5, 2, 10, 18, 26, 25, 17, 9, 1]

/-- The place of a device on the ring. -/
def pos : Dev nD → Fin 32 := ![0, 31, 24, 7, 8, 23, 16, 15, 1, 30, 25, 6, 9, 22, 17, 14, 2, 29, 26, 5, 10, 21, 18, 13, 3, 28, 27, 4, 11, 20, 19, 12]

theorem dev_pos (c : Dev nD) : dev (pos c) = c := by revert c; decide
theorem pos_dev (p : Fin 32) : pos (dev p) = p := by revert p; decide

/-- The device a flow goes to. -/
def dst (d : Bool) (c : Dev nD) : Dev nD := match d with | false => dev (pos c + 1) | true => dev (pos c - 1)

/-- The device a flow comes from. -/
def src (d : Bool) (c : Dev nD) : Dev nD := dst (!d) c

theorem src_dst (d : Bool) (c : Dev nD) : src d (dst d c) = c := by revert d c; decide
theorem dst_src (d : Bool) (c : Dev nD) : dst d (src d c) = c := by revert d c; decide
theorem dst_ne (d : Bool) (c : Dev nD) : dst d c ≠ c := by revert d c; decide
theorem dst_false_ne_true (c : Dev nD) : dst false c ≠ dst true c := by revert c; decide

/-- The device whose rows hop `k` of a flow carries a part of, when it leaves device `c`. -/
def goal (d : Bool) (k : Nat) (c : Dev nD) : Dev nD :=
  match d with
  | false => dev (pos c + 16 - Fin.ofNat 32 k)
  | true => dev (pos c - 15 + Fin.ofNat 32 k)

variable (m : (ℓ : Loc nD τ sig) → Buf (Elt F) ℓ)

/-- A ring place as the host reads it: a negative one counts from the end. -/
def wrap (w : BitVec 32) : BitVec 32 := Scalar.select (IntOp.cmpi .slt w 0#32) (IntOp.addi w 32#32) w

/-- The host's remainder modulo 32, which has the sign of the divisor. -/
def prem (w : BitVec 32) : BitVec 32 :=
  let y := Scalar.select (IntOp.cmpi .eq 32#32 0#32) 1#32 32#32
  let r := IntOp.remsi .host w y
  Scalar.select (IntOp.andi (IntOp.cmpi .ne (IntOp.cmpi .slt r 0#32) (IntOp.cmpi .slt y 0#32)) (IntOp.cmpi .ne r 0#32)) (IntOp.addi r y) r

theorem own_place (c : Dev nD) :
    (fun k : Fin 1 => BitVec.toInt (cast (by fin_cases k; rfl : ((![main_v7] k : Ref sig .tc).ty.Contents (Elt F)) = (⟨S_, .i32⟩ : BufTy).Contents (Elt F))
      (StableHlo.upto (hostOps0 c) (V0 m c) 13 (Proc.tc.devRef (![main_v7] k))) (Shape.Idx.first h_S_)))
    = fun _ => (c.val : Int) := by
  funext k
  obtain rfl := Subsingleton.elim k 0
  show BitVec.toInt (StableHlo.upto (hostOps0 c) (V0 m c) 13 (Proc.tc.devRef main_v7) (Shape.Idx.first h_S_)) = _
  after_reads_simp
  show (wrap (IntOp.remui .host (IntOp.divui .host (Dev.word c) 1#32) 32#32)).toInt = _
  have h : ∀ c : Dev nD, (wrap (IntOp.remui .host (IntOp.divui .host (Dev.word c) 1#32) 32#32)).toInt = (c.val : Int) := by decide
  exact h c

theorem place_eq (c : Dev nD) : V1 m c main_v9 = fun _ => BitVec.ofNat 32 (pos c).val := by
  after_reads_simp
  rw [own_place]
  funext i
  have h : ∀ (c : Dev nD) (j : Fin 32), j.val = c.val → lit1 j = BitVec.ofNat 32 (pos c).val := by decide
  refine h c _ ?_
  rw [Shape.rowMajor_val_one]
  show (min (max (c.val : Int) 0) ((32 - 1 : Nat) : Int)).toNat + ((Shape.reshapeEquiv shapeCasts_S1_S_) i 0).val = c.val
  have := c.isLt
  have : nD = 32 := rfl
  have := ((Shape.reshapeEquiv shapeCasts_S1_S_) i 0).isLt
  have : S1.size 0 = 1 := rfl
  omega

theorem prem_1 (V : Valuation τ sig (Elt F)) (h : V main_c_6 = fun _ => 32#32) :
    StableHlo.after hostOps0_1 V main_v11 = fun i => prem (V main_v10 i) := by
  after_reads_simp
  rw [h]
  rfl

theorem prem_3 (V : Valuation τ sig (Elt F)) (h : V main_c_10 = fun _ => 32#32) :
    StableHlo.after hostOps0_3 V main_v18 = fun i => prem (V main_v17 i) := by
  after_reads_simp
  rw [h]
  rfl

theorem prem_5 (V : Valuation τ sig (Elt F)) (h : V main_c_14 = fun _ => 32#32) :
    StableHlo.after hostOps0_5 V main_v31 = fun i => prem (V main_v30 i) := by
  after_reads_simp
  rw [h]
  rfl

theorem prem_7 (V : Valuation τ sig (Elt F)) (h : V main_c_18 = fun _ => 32#32) :
    StableHlo.after hostOps0_7 V main_v43 = fun i => prem (V main_v42 i) := by
  after_reads_simp
  rw [h]
  rfl

theorem V4_place (c : Dev nD) : V4 m c main_v9 = fun _ => BitVec.ofNat 32 (pos c).val := by
  rw [V4_of m c main_v9 (by decide), V3_of m c main_v9 (by decide), V2_of m c main_v9 (by decide), place_eq]

theorem V1_c (c : Dev nD) : V1 m c main_c = fun i => lit0 (S32.rowMajor i) := by
  after_reads_simp
  rfl

theorem V8_c (c : Dev nD) : V8 m c main_c = fun i => lit0 (S32.rowMajor i) := by
  rw [V8_of m c main_c (by decide), V7_of m c main_c (by decide), V6_of m c main_c (by decide), V5_of m c main_c (by decide),
    V4_of m c main_c (by decide), V3_of m c main_c (by decide), V2_of m c main_c (by decide), V1_c]

theorem V1_v10 (c : Dev nD) : V1 m c main_v10 = fun _ => BitVec.ofNat 32 (pos c).val + 1#32 := by
  have h : V1 m c main_v10 = addi (V1 m c main_v9 : (⟨S_, .i32⟩ : BufTy).Contents (Elt F)) (constantI S_ 32 1#32) := by
    after_reads_simp
  rw [h, place_eq]; rfl

theorem V2_v11 (c : Dev nD) : V2 m c main_v11 = fun _ => BitVec.ofNat 32 (pos c + 1).val := by
  rw [show V2 m c main_v11 = StableHlo.after hostOps0_1 (V1 m c) main_v11 from rfl, prem_1 _ (by after_reads_simp; rfl), V1_v10]
  have h : ∀ c : Dev nD, prem (BitVec.ofNat 32 (pos c).val + 1#32) = BitVec.ofNat 32 (pos c + 1).val := by decide
  funext _
  exact h c

theorem V3_v17 (c : Dev nD) : V3 m c main_v17 = fun _ => BitVec.ofNat 32 (pos c).val - 1#32 := by
  have h : V3 m c main_v17 = subi (V2 m c main_v9 : (⟨S_, .i32⟩ : BufTy).Contents (Elt F)) (constantI S_ 32 1#32) := by
    show StableHlo.after hostOps0_2 (V2 m c) main_v17 = _
    generalize V2 m c = V
    after_reads_simp
  rw [h, V2_of m c main_v9 (by decide), place_eq]; rfl

theorem V4_v18 (c : Dev nD) : V4 m c main_v18 = fun _ => BitVec.ofNat 32 (pos c - 1).val := by
  rw [show V4 m c main_v18 = StableHlo.after hostOps0_3 (V3 m c) main_v18 from rfl, prem_3 _ (by
    show StableHlo.after hostOps0_2 (V2 m c) main_c_10 = _
    after_reads_simp
    rfl), V3_v17]
  have h : ∀ c : Dev nD, prem (BitVec.ofNat 32 (pos c).val - 1#32) = BitVec.ofNat 32 (pos c - 1).val := by decide
  funext _
  exact h c

/-- A slice of one element at a place of the ring. -/
theorem ring_slice (p : Fin 32) (w : Fin 1 → Int) (hw : w = fun _ => (p.val : Int)) (i : S_.Idx) :
    shapeCast (α := BitVec 32) S_ (Host.dynamicSlice S1 (fun i => lit0 (S32.rowMajor i)) w sliceFits_S32_S1) shapeCasts_S1_S_ i
      = BitVec.ofNat 32 (dev p).val := by
  subst hw
  have h : ∀ (p : Fin 32) (j : Fin 32), j.val = p.val → lit0 j = BitVec.ofNat 32 (dev p).val := by decide
  refine h p _ ?_
  rw [Shape.rowMajor_val_one]
  show (min (max (p.val : Int) 0) ((32 - 1 : Nat) : Int)).toNat + ((Shape.reshapeEquiv shapeCasts_S1_S_) i 0).val = p.val
  have := p.isLt
  have := ((Shape.reshapeEquiv shapeCasts_S1_S_) i 0).isLt
  have : S1.size 0 = 1 := rfl
  omega

theorem V3_v16 (c : Dev nD) : V3 m c main_v16 = fun _ => BitVec.ofNat 32 (dst false c).val := by
  show StableHlo.after hostOps0_2 (V2 m c) main_v16 = _
  have hc : V2 m c main_c = fun i => lit0 (S32.rowMajor i) := by rw [V2_of m c main_c (by decide), V1_c]
  have h11 := V2_v11 m c
  revert hc h11
  generalize V2 m c = V
  intro hc h11
  after_reads_simp
  rw [hc]
  funext i
  refine ring_slice (pos c + 1) _ ?_ i
  funext k
  obtain rfl := Subsingleton.elim k 0
  show BitVec.toInt (StableHlo.upto hostOps0_2 V 5 (Proc.tc.devRef main_v14) (Shape.Idx.first h_S_)) = _
  after_reads_simp
  rw [h11]
  have h : ∀ c : Dev nD, (wrap (BitVec.ofNat 32 (pos c + 1).val)).toInt = ((pos c + 1).val : Int) := by decide
  exact h c

theorem V5_v26 (c : Dev nD) : V5 m c main_v26 = (concatenate S2 0 [⟨S1, fun _ => BitVec.ofNat 32 (dst false c).val⟩, ⟨S1, fun _ => BitVec.ofNat 32 (dst true c).val⟩] concatenates_S1_S1_S2_d0 : S2.Idx → BitVec 32) := by
  show StableHlo.after hostOps0_4 (V4 m c) main_v26 = _
  have hc : V4 m c main_c = fun i => lit0 (S32.rowMajor i) := by
    rw [V4_of m c main_c (by decide), V3_of m c main_c (by decide), V2_of m c main_c (by decide), V1_c]
  have h16 : V4 m c main_v16 = fun _ => BitVec.ofNat 32 (dst false c).val := by rw [V4_of m c main_v16 (by decide), V3_v16]
  have h18 := V4_v18 m c
  revert hc h16 h18
  generalize V4 m c = V
  intro hc h16 h18
  have h24 : StableHlo.upto hostOps0_4 V 9 (Proc.tc.devRef main_v24) = fun _ => BitVec.ofNat 32 (dst false c).val := by
    after_reads_simp
    rw [h16]
    rfl
  have h25 : StableHlo.upto hostOps0_4 V 9 (Proc.tc.devRef main_v25) = fun _ => BitVec.ofNat 32 (dst true c).val := by
    after_reads_simp
    rw [hc]
    funext i
    refine ring_slice (pos c - 1) _ ?_ _
    funext k
    obtain rfl := Subsingleton.elim k 0
    show BitVec.toInt (StableHlo.upto hostOps0_4 V 5 (Proc.tc.devRef main_v21) (Shape.Idx.first h_S_)) = _
    after_reads_simp
    rw [h18]
    have h : ∀ c : Dev nD, (wrap (BitVec.ofNat 32 (pos c - 1).val)).toInt = ((pos c - 1).val : Int) := by decide
    exact h c
  after_reads_simp
  rw [h24, h25]
  rfl

theorem V5_v30 (c : Dev nD) : V5 m c main_v30 = fun i : S16.Idx => BitVec.ofNat 32 (pos c).val + 16#32 - BitVec.ofNat 32 (i 0).val := by
  show StableHlo.after hostOps0_4 (V4 m c) main_v30 = _
  have h9 := V4_place m c
  revert h9
  generalize V4 m c = V
  intro h9
  after_reads_simp
  rw [h9]
  rfl

theorem V6_v31 (c : Dev nD) : V6 m c main_v31 = fun i : S16.Idx => prem (BitVec.ofNat 32 (pos c).val + 16#32 - BitVec.ofNat 32 (i 0).val) := by
  rw [show V6 m c main_v31 = StableHlo.after hostOps0_5 (V5 m c) main_v31 from rfl, prem_5 _ (by
    show StableHlo.after hostOps0_4 (V4 m c) main_c_14 = _
    after_reads_simp
    rfl), V5_v30]
  rfl

theorem V7_v42 (c : Dev nD) : V7 m c main_v42 = fun i : S15.Idx => BitVec.ofNat 32 (pos c).val - 15#32 + BitVec.ofNat 32 (i 0).val := by
  show StableHlo.after hostOps0_6 (V6 m c) main_v42 = _
  have h9 : V6 m c main_v9 = fun _ => BitVec.ofNat 32 (pos c).val := by
    rw [V6_of m c main_v9 (by decide), V5_of m c main_v9 (by decide), V4_place]
  revert h9
  generalize V6 m c = V
  intro h9
  after_reads_simp
  rw [h9]
  rfl

theorem V8_v43 (c : Dev nD) : V8 m c main_v43 = fun i : S15.Idx => prem (BitVec.ofNat 32 (pos c).val - 15#32 + BitVec.ofNat 32 (i 0).val) := by
  rw [show V8 m c main_v43 = StableHlo.after hostOps0_7 (V7 m c) main_v43 from rfl, prem_7 _ (by
    show StableHlo.after hostOps0_6 (V6 m c) main_c_18 = _
    after_reads_simp
    rfl), V7_v42]
  rfl

theorem ring_at (p : Fin 32) : lit0 (S32.rowMajor (ix1 p)) = BitVec.ofNat 32 (dev p).val := by
  have h : ∀ (p : Fin 32) (j : Fin 32), j.val = p.val → lit0 j = BitVec.ofNat 32 (dev p).val := by decide
  refine h p _ ?_
  rw [Shape.rowMajor_val_one]
  rfl

theorem V7_v38 (c : Dev nD) (k : Fin 16) : (V7 m c main_v38 : S16.Idx → BitVec 32) (ix1 k) = BitVec.ofNat 32 (goal false k.val c).val := by
  have e : V7 m c main_v38 = Host.gather gather_S32_S16x1_S16_n_0_n_n_0_1_1 (V6 m c main_c : S32.Idx → BitVec 32)
      (broadcastInDim S16x1 ![0] bcast_S16_S16x1_0 (fun i => wrap ((V6 m c main_v31 : S16.Idx → BitVec 32) i))) := by
    show StableHlo.after hostOps0_6 (V6 m c) main_v38 = _
    generalize V6 m c = V
    after_reads_simp
    rfl
  rw [e, V6_v31, V6_of m c main_c (by decide), V5_of m c main_c (by decide), V4_of m c main_c (by decide), V3_of m c main_c (by decide), V2_of m c main_c (by decide), V1_c]
  refine (Routing.gather_take1 gather_S32_S16x1_S16_n_0_n_n_0_1_1 rfl rfl rfl rfl _ _ k (pos c + 16 - Fin.ofNat 32 k.val) ?_ (by decide)).trans (ring_at _)
  show wrap (prem (BitVec.ofNat 32 (pos c).val + 16#32 - BitVec.ofNat 32 k.val)) = _
  clear e
  revert c k; decide +kernel

theorem V9_v50 (c : Dev nD) (k : Fin 15) : (V9 m c main_v50 : S15.Idx → BitVec 32) (ix1 k) = BitVec.ofNat 32 (goal true k.val c).val := by
  have e : V9 m c main_v50 = Host.gather gather_S32_S15x1_S15_n_0_n_n_0_1_1 (V8 m c main_c : S32.Idx → BitVec 32)
      (broadcastInDim S15x1 ![0] bcast_S15_S15x1_0 (fun i => wrap ((V8 m c main_v43 : S15.Idx → BitVec 32) i))) := by
    show StableHlo.after hostOps0_8 (V8 m c) main_v50 = _
    generalize V8 m c = V
    after_reads_simp
    rfl
  rw [e, V8_v43, V8_c]
  refine (Routing.gather_take1 gather_S32_S15x1_S15_n_0_n_n_0_1_1 rfl rfl rfl rfl _ _ k (pos c - 15 + Fin.ofNat 32 k.val) ?_ (by decide)).trans (ring_at _)
  show wrap (prem (BitVec.ofNat 32 (pos c).val - 15#32 + BitVec.ofNat 32 k.val)) = _
  clear e
  revert c k; decide +kernel

/-! ## The tables as the region finds them -/

theorem right_word (c : Dev nD) : (V9 m c main_v26 : S2.Idx → BitVec 32) (ix1 0) = BitVec.ofNat 32 (dst false c).val := by
  rw [V9_of m c main_v26 (by decide), V8_of m c main_v26 (by decide), V7_of m c main_v26 (by decide), V6_of m c main_v26 (by decide), V5_v26,
    concatenate_pair_apply]
  rfl

theorem left_word (c : Dev nD) : (V9 m c main_v26 : S2.Idx → BitVec 32) (ix1 1) = BitVec.ofNat 32 (dst true c).val := by
  rw [V9_of m c main_v26 (by decide), V8_of m c main_v26 (by decide), V7_of m c main_v26 (by decide), V6_of m c main_v26 (by decide), V5_v26,
    concatenate_pair_apply]
  rfl

theorem sched_right (c : Dev nD) (k : Fin 16) : (V9 m c main_v38 : S16.Idx → BitVec 32) (ix1 k) = BitVec.ofNat 32 (goal false k.val c).val := by
  rw [V9_of m c main_v38 (by decide), V8_of m c main_v38 (by decide), V7_v38]

theorem sched_left (c : Dev nD) (k : Fin 15) : (V9 m c main_v50 : S15.Idx → BitVec 32) (ix1 k) = BitVec.ofNat 32 (goal true k.val c).val :=
  V9_v50 m c k

end Cert.KernelIdeal.Ring
-- ==== Proof.Proto.lean ====
/-
The protocol of the four flows: which transfer pays which semaphore, and what changes hands with it.

* The barrier of a device is paid once by each neighbour.  The payment of the neighbour that a flow goes
  to hands over the first of its two receive buffers of that flow.
* Hop `t` of a flow pays two semaphores.  One, at the sender, gives the send buffer back.  The other, at
  the receiver, hands over the received sum, and with it the permission to write the sender's own receive
  buffer that the opposite flow uses next.

The second permission is what keeps a sender from overtaking a receiver: a device sends a hop only after
it has read what the opposite flow left in the buffer it hands over.
-/
module

public import proofs.«01_k».proof.Proof.Tables
public import Idealize.ShloMosaic.Lib.Pipeline.Launch
public import Idealize.ShloMosaic.Lib.Pipeline.Kit
public import Idealize.ShloMosaic.Lib.Rounds
public import Idealize.ShloMosaic.Lib.Ring
public import Idealize.ShloMosaic.Lib.Tactic

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## The cells -/

/-- The place of a flow's send semaphore among the transfer semaphores. -/
def sndN (d h : Bool) : DmaSem sig := Fin.ofNat 74 (8 + 2 * d.toNat + h.toNat)

/-- The place of the receive semaphore of hop `t`. -/
def rcvN (d h : Bool) (t : Nat) : DmaSem sig :=
  Fin.ofNat 74 ((match d, h with | false, false => 12 | false, true => 28 | true, false => 44 | true, true => 59) + t)

theorem ssem_eq (d h : Bool) : ssem d h = sndN d h := by
  cases d <;> cases h <;> decide

theorem rsem_eq (d h : Bool) (t : Nat) (ht : t < cnt d) : rsem d h t ht = rcvN d h t := by
  cases d
  · have h16 : ∀ (h : Bool) (t : Fin 16), rsem false h t.val t.isLt = rcvN false h t.val := by decide +kernel
    exact h16 h ⟨t, ht⟩
  · have h15 : ∀ (h : Bool) (t : Fin 15), rsem true h t.val t.isLt = rcvN true h t.val := by decide +kernel
    exact h15 h ⟨t, ht⟩

/-- The barrier cell, the send cell and the receive cells of a device. -/
abbrev bar (c : Dev nD) : GSem nD τ sig := ((c : Thread nD τ), .reg bsem)
abbrev snd (d h : Bool) (c : Dev nD) : GSem nD τ sig := ((c : Thread nD τ), .dma (sndN d h))
abbrev rcv (d h : Bool) (t : Nat) (c : Dev nD) : GSem nD τ sig := ((c : Thread nD τ), .dma (rcvN d h t))

/-- What a semaphore is for. -/
inductive Role where
  | bar
  | snd (d h : Bool)
  | rcv (d h : Bool) (t : Nat)
  | none
  deriving DecidableEq

/-- The role of a transfer semaphore, from its place. -/
def roleN (n : Nat) : Role :=
  if n < 8 then .none
  else if n < 12 then .snd (decide (10 ≤ n)) (decide (n % 2 = 1))
  else if n < 28 then .rcv false false (n - 12)
  else if n < 44 then .rcv false true (n - 28)
  else if n < 59 then .rcv true false (n - 44)
  else .rcv true true (n - 59)

/-- The role of a semaphore. -/
def role : SemLoc sig → Role
  | .reg s => if s = bsem then .bar else .none
  | .dma q => roleN q.val

theorem role_bar : role (.reg bsem) = .bar := by decide

theorem role_snd (d h : Bool) : role (.dma (sndN d h)) = .snd d h := by
  revert d h; decide

theorem role_rcv (d h : Bool) {t : Nat} (ht : t < cnt d) : role (.dma (rcvN d h t)) = .rcv d h t := by
  cases d
  · have h16 : ∀ (h : Bool) (t : Fin 16), role (.dma (rcvN false h t.val)) = .rcv false h t.val := by decide +kernel
    exact h16 h ⟨t, ht⟩
  · have h15 : ∀ (h : Bool) (t : Fin 15), role (.dma (rcvN true h t.val)) = .rcv true h t.val := by decide +kernel
    exact h15 h ⟨t, ht⟩

/-! ## The units of a transfer -/

/-- What every hop pays. -/
abbrev N : ℕ := (sbuf false false).view.dmaCredit

theorem N_pos : 0 < N := View.dmaCredit_pos _ (by decide)

theorem sbuf_credit (d h : Bool) : (sbuf d h).view.dmaCredit = N := by cases d <;> cases h <;> rfl

theorem slot_credit (d h : Bool) (k : Nat) : (slot d h k).view.dmaCredit = N := by cases d <;> cases h <;> rfl

/-! ## Contents -/

/-- The rank-three form a receive buffer is read in. -/
def lift3 (X : FVec F S128x1024 .bf16) : Vec F S1x128x1024 .bf16 :=
  shapeCast S1x128x1024 X

/-- What is read in rank three is the rank-three form of what the buffer holds. -/
theorem lift3_of {v : Vec F S1x128x1024 .bf16} {X : FVec F S128x1024 .bf16}
    (h : shapeCast S128x1024 v shapeCasts_S1x128x1024_S128x1024 = X) : v = lift3 X := by
  subst h; exact (shapeCast_shapeCast _ _ _).symm

/-- What hop `s` of a flow carries away from device `c`, when `A d k c` is the own part of hop `k`. -/
def acc (A : Bool → ℕ → Dev nD → FVec F S128x2048 .bf16) (d h : Bool) : ℕ → Dev nD → FVec F S128x1024 .bf16
  | 0, c => half h (A d 0 c)
  | s + 1, c => addIn h (A d (s + 1) c) (lift3 (acc A d h s (src d c)))

/-! ## What changes hands -/

/-- The resources: one copy of the rounds for the staging of the windows, one for the flows. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-- A send buffer at contents not named. -/
def sAny (d h : Bool) (c : Dev nD) : sProp 𝕄 :=
  iprop(∃ f, (sbuf d h).view.loc (c : Thread nD τ) ↦[(sbuf d h).view.set]{fullShare} f)

/-- The receive buffer of hop `k` at contents not named. -/
def slotAny (d h : Bool) (k : ℕ) (c : Dev nD) : sProp 𝕄 :=
  iprop(∃ f, (slot d h k).view.loc (c : Thread nD τ) ↦[(slot d h k).view.set]{fullShare} f)

/-- A send buffer holding `X`. -/
def sHas (d h : Bool) (c : Dev nD) (X : FVec F S128x1024 .bf16) : sProp 𝕄 := owns (c : Thread nD τ) (sbuf d h) fullShare X

/-- The receive buffer of hop `k` holding `X`. -/
def slotHas (d h : Bool) (k : ℕ) (c : Dev nD) (X : FVec F S128x1024 .bf16) : sProp 𝕄 := owns (c : Thread nD τ) (slot d h k) fullShare X

instance sAny_storable (d h : Bool) (c : Dev nD) : BI.Storable (upEmb : UEmb _ 𝕄) (sAny (F := F) d h c) := by
  unfold sAny; infer_instance
instance slotAny_storable (d h : Bool) (k : ℕ) (c : Dev nD) : BI.Storable (upEmb : UEmb _ 𝕄) (slotAny (F := F) d h k c) := by
  unfold slotAny; infer_instance
instance slotHas_storable (d h : Bool) (k : ℕ) (c : Dev nD) (X : FVec F S128x1024 .bf16) :
    BI.Storable (upEmb : UEmb _ 𝕄) (slotHas d h k c X) := by
  unfold slotHas; infer_instance

/-- Contents may be forgotten. -/
theorem slotHas_any (d h : Bool) (k : ℕ) (c : Dev nD) (X : FVec F S128x1024 .bf16) : slotHas d h k c X ⊢ slotAny (F := F) d h k c := by
  unfold slotHas slotAny owns
  iintro ⟨%f, -, H⟩
  iexists f; iexact H

theorem sHas_any (d h : Bool) (c : Dev nD) (X : FVec F S128x1024 .bf16) : sHas d h c X ⊢ sAny (F := F) d h c := by
  unfold sHas sAny owns
  iintro ⟨%f, -, H⟩
  iexists f; iexact H

/-- Hops of equal parity land in the same buffer. -/
theorem slotAny_parity (d h : Bool) {k k' : ℕ} (e : k % 2 = k' % 2) (c : Dev nD) : slotAny (F := F) d h k c = slotAny d h k' c := by
  have key : ∀ (a b : ℕ) (_ : a = b) (ha : ∀ i, (![a, 0, 0] : Fin 3 → Nat) i + S1x128x1024.size i ≤ S2x128x1024.size i)
      (hb : ∀ i, (![b, 0, 0] : Fin 3 → Nat) i + S1x128x1024.size i ≤ S2x128x1024.size i),
      (((rbuf d h).slice (Rect.unit (s := S2x128x1024) ![a, 0, 0] S1x128x1024.size ha) (fun _ => rfl)).squeeze S128x1024 squeezes_S1x128x1024_S128x1024)
        = (((rbuf d h).slice (Rect.unit (s := S2x128x1024) ![b, 0, 0] S1x128x1024.size hb) (fun _ => rfl)).squeeze S128x1024 squeezes_S1x128x1024_S128x1024) := by
    rintro a _ rfl _ _; rfl
  have hs : slot d h k = slot d h k' := key _ _ e (inbSlot k) (inbSlot k')
  unfold slotAny; rw [hs]

/-- The permission that comes with hop `t`: to write the receive buffer of the opposite flow that the
    receiver's own hop `t + 1` lands in, when there is such a hop. -/
def credit (d h : Bool) (t : ℕ) (c : Dev nD) : sProp 𝕄 :=
  if t + 1 < cnt (!d) then slotAny (!d) h (t + 1) (src d c) else iprop(emp)

instance credit_storable (d h : Bool) (t : ℕ) (c : Dev nD) : BI.Storable (upEmb : UEmb _ 𝕄) (credit (F := F) d h t c) := by
  unfold credit; split <;> infer_instance

/-- What the neighbour that direction `d` goes to gives at the barrier. -/
def barPay (d : Bool) (c : Dev nD) : sProp 𝕄 :=
  bigSep Finset.univ fun h => iprop(slotAny d h 0 (dst d c) ∗ bigSep (Finset.range (cnt d)) fun t => reached ER (rcv d h t (dst d c)) 0)

variable (A : Bool → ℕ → Dev nD → FVec F S128x2048 .bf16)

/-- What hop `t` gives at the receiver. -/
def rcvPay (d h : Bool) (t : ℕ) (c : Dev nD) : sProp 𝕄 := iprop(slotHas d h t c (acc A d h t (src d c)) ∗ credit d h t c)

/-! ## The schedule -/

/-- The rounds of a cell by its role: the barrier has one round of two payments; a send cell one round per
    hop; a receive cell one round. -/
def dutiesOf : Role → ℕ → Finset Bool
  | .bar, r => if r = 0 then Finset.univ else ∅
  | .snd d _, r => if r < cnt d then {false} else ∅
  | .rcv _ _ _, r => if r = 0 then {false} else ∅
  | .none, _ => ∅

/-- The units of a payment. -/
def amountOf : Role → ℕ
  | .bar => 1
  | _ => N

/-- What a payment hands over. -/
def payOf (c : Dev nD) (u : Bool) : Role → sProp 𝕄
  | .bar => barPay u c
  | .snd d h => sAny d h c
  | .rcv d h t => rcvPay A d h t c
  | .none => iprop(emp)

def Rd : Rounds.Schedule (GSem nD τ sig) Bool 𝕄 where
  duties g r := if g.1.2 = .tc then dutiesOf (role g.2) r else ∅
  unitless _ := False
  amount g _ _ := amountOf (role g.2)
  payload g _ u := payOf A g.1.1 u (role g.2)
  amount_pos g _ _ _ := by
    cases role g.2
    · exact Nat.one_pos
    all_goals exact N_pos

instance Rd_storable (g : GSem nD τ sig) (r : ℕ) (u : Bool) : BI.Storable (upEmb : UEmb _ 𝕄) ((Rd A).payload g r u) := by
  show BI.Storable upEmb (payOf A g.1.1 u (role g.2))
  cases role g.2 <;> unfold payOf
  · unfold barPay; infer_instance
  · infer_instance
  · unfold rcvPay; infer_instance
  · infer_instance

section Sched

variable (d h : Bool) (t : ℕ) (c : Dev nD)

theorem duties_bar : (Rd A).duties (bar c) 0 = Finset.univ := by
  show dutiesOf (role (.reg bsem)) 0 = _
  rw [role_bar]; rfl

theorem duties_snd {r : ℕ} (hr : r < cnt d) : (Rd A).duties (snd d h c) r = {false} := by
  show dutiesOf (role (.dma (sndN d h))) r = _
  rw [role_snd]; exact if_pos hr

theorem duties_rcv {t : ℕ} (ht : t < cnt d) : (Rd A).duties (rcv d h t c) 0 = {false} := by
  show dutiesOf (role (.dma (rcvN d h t))) 0 = _
  rw [role_rcv d h ht]; rfl

theorem duties_bar_later (r : ℕ) (hr : 1 ≤ r) : (Rd A).duties (bar c) r = ∅ := by
  show dutiesOf (role (.reg bsem)) r = _
  rw [role_bar]; exact if_neg (by omega)

theorem duties_snd_later (r : ℕ) (hr : cnt d ≤ r) : (Rd A).duties (snd d h c) r = ∅ := by
  show dutiesOf (role (.dma (sndN d h))) r = _
  rw [role_snd]; exact if_neg (by omega)

theorem duties_rcv_later {t : ℕ} (ht : t < cnt d) (r : ℕ) (hr : 1 ≤ r) : (Rd A).duties (rcv d h t c) r = ∅ := by
  show dutiesOf (role (.dma (rcvN d h t))) r = _
  rw [role_rcv d h ht]; exact if_neg (by omega)

theorem amount_bar (r : ℕ) (u : Bool) : (Rd A).amount (bar c) r u = 1 := by
  show amountOf (role (.reg bsem)) = _
  rw [role_bar]; rfl

theorem amount_snd (r : ℕ) (u : Bool) : (Rd A).amount (snd d h c) r u = N := by
  show amountOf (role (.dma (sndN d h))) = _
  rw [role_snd]; rfl

theorem amount_rcv {t : ℕ} (ht : t < cnt d) (r : ℕ) (u : Bool) : (Rd A).amount (rcv d h t c) r u = N := by
  show amountOf (role (.dma (rcvN d h t))) = _
  rw [role_rcv d h ht]; rfl

theorem payload_bar (r : ℕ) (u : Bool) : (Rd A).payload (bar c) r u = barPay u c := by
  show payOf A c u (role (.reg bsem)) = _
  rw [role_bar]; rfl

theorem payload_snd (r : ℕ) (u : Bool) : (Rd A).payload (snd d h c) r u = sAny d h c := by
  show payOf A c u (role (.dma (sndN d h))) = _
  rw [role_snd]; rfl

theorem payload_rcv {t : ℕ} (ht : t < cnt d) (r : ℕ) (u : Bool) : (Rd A).payload (rcv d h t c) r u = rcvPay A d h t c := by
  show payOf A c u (role (.dma (rcvN d h t))) = _
  rw [role_rcv d h ht]; rfl

theorem expect_bar : (Rd A).expect (bar c) 0 = 2 := by
  unfold Schedule.expect Schedule.amountOf
  rw [duties_bar]; simp only [amount_bar]; rfl

theorem expect_snd {r : ℕ} (hr : r < cnt d) : (Rd A).expect (snd d h c) r = N := by
  unfold Schedule.expect Schedule.amountOf
  rw [duties_snd A d h c hr, Finset.sum_singleton, amount_snd]

theorem expect_rcv {t : ℕ} (ht : t < cnt d) : (Rd A).expect (rcv d h t c) 0 = N := by
  unfold Schedule.expect Schedule.amountOf
  rw [duties_rcv A d h c ht, Finset.sum_singleton, amount_rcv A d h c ht]

theorem rest_bar : bigSep ((Rd A).duties (bar c) 0 \ ∅) (fun u => (Rd A).payload (bar c) 0 u) = bigSep Finset.univ fun u => barPay u c := by
  rw [Finset.sdiff_empty, duties_bar]; simp only [payload_bar]

theorem rest_snd {r : ℕ} (hr : r < cnt d) :
    bigSep ((Rd A).duties (snd d h c) r \ ∅) (fun u => (Rd A).payload (snd d h c) r u) = sAny d h c := by
  rw [Finset.sdiff_empty, duties_snd A d h c hr, bigSep_singleton, payload_snd]

theorem rest_rcv {t : ℕ} (ht : t < cnt d) :
    bigSep ((Rd A).duties (rcv d h t c) 0 \ ∅) (fun u => (Rd A).payload (rcv d h t c) 0 u) = rcvPay A d h t c := by
  rw [Finset.sdiff_empty, duties_rcv A d h c ht, bigSep_singleton, payload_rcv A d h c ht]

end Sched

/-! ## Levels and debts -/

/-- The waits in order: what the device gives itself, then the barrier, then the hops one after another. -/
def lvOf : Role → ℕ
  | .bar => 1
  | .rcv _ _ t => t + 2
  | _ => 0

def L (g : GSem nD τ sig) : Finset Unit := if g.1.2 = .tc then {()} else ∅
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- Every debt in `O` is of a level above `n`. -/
def Above (n : ℕ) (O : CellTallies nD τ sig Unit) : Prop := ∀ (g : GSem nD τ sig) (u : Unit), 0 < O g u → u ∈ L g ∧ n < lv g u

theorem above_zero (n : ℕ) : Above n 0 := fun _ _ h => absurd h (Nat.lt_irrefl 0)

theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem Above.mono {n n' : ℕ} (hn : n' ≤ n) {O : CellTallies nD τ sig Unit} (h : Above n O) : Above n' O :=
  fun g u hg => ⟨(h g u hg).1, lt_of_le_of_lt hn (h g u hg).2⟩

theorem above_tally {n : ℕ} (c : Dev nD) (sm : SemLoc sig) (N' : ℕ) (h : n < lvOf (role sm)) :
    Above n (tallyAt ((c : Thread nD τ), sm) () N') := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

/-- The debts of a flow from hop `k` on. -/
def debt (d h : Bool) (k : ℕ) (c : Dev nD) : CellTallies nD τ sig Unit :=
  ∑ t ∈ Finset.Ico k (cnt d), tallyAt (rcv d h t (dst d c)) () N

theorem debt_succ (d h : Bool) {k : ℕ} (hk : k < cnt d) (c : Dev nD) :
    debt d h k c = debt d h (k + 1) c + tallyAt (rcv d h k (dst d c)) () N := by
  unfold debt; rw [show Finset.Ico k (cnt d) = insert k (Finset.Ico (k + 1) (cnt d)) by ext x; simp only [Finset.mem_Ico, Finset.mem_insert]; omega,
    Finset.sum_insert (by rw [Finset.mem_Ico]; omega), add_comm]

theorem debt_end (d h : Bool) (c : Dev nD) : debt d h (cnt d) c = 0 := by
  unfold debt; rw [Finset.Ico_self, Finset.sum_empty]

theorem above_sum {n : ℕ} {I : Type} (s : Finset I) (O : I → CellTallies nD τ sig Unit) (h : ∀ i ∈ s, Above n (O i)) : Above n (∑ i ∈ s, O i) := by
  classical
  induction s using Finset.induction_on with
  | empty => exact above_zero n
  | insert a s ha ih =>
    rw [Finset.sum_insert ha]
    exact (h a (Finset.mem_insert_self _ _)).add (ih fun i hi => h i (Finset.mem_insert_of_mem hi))

theorem above_debt (d h : Bool) {k n : ℕ} (hn : n < k + 2) (c : Dev nD) : Above n (debt d h k c) :=
  above_sum _ _ fun t ht => above_tally _ _ _ (by
    rw [Finset.mem_Ico] at ht
    rw [role_rcv d h ht.2]; show n < t + 2; omega)

/-- A device may wait at a level below all its debts. -/
theorem mayWait_of (c : Dev nD) (sm : SemLoc sig) {n : ℕ} (hn : lvOf (role sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-! ## The ghost state -/

/-- The kernel's own transfer semaphores: four send semaphores, and one receive semaphore per hop. -/
abbrev Own : Type := (Bool × Bool) ⊕ ((Bool × Fin 16) ⊕ (Bool × Fin 15))

abbrev osem : Own → SemLoc sig
  | .inl f => .dma (sndN f.1 f.2)
  | .inr (.inl f) => .dma (rcvN false f.1 f.2.val)
  | .inr (.inr f) => .dma (rcvN true f.1 f.2.val)

/-- A family over the booleans. -/
theorem bigSep_bool {M : Type _} [URA M] (Ψ : Bool → sProp M) : bigSep Finset.univ Ψ = iprop(Ψ false ∗ Ψ true) := by
  rw [show (Finset.univ : Finset Bool) = {false, true} by decide, bigSep_insert (by decide), bigSep_singleton]
  rfl

/-- A family over the own semaphores, flow by flow. -/
theorem own_flows (Φ : SemLoc sig → sProp 𝕄) :
    bigSep Finset.univ (fun k => Φ (osem k))
      = bigSep Finset.univ (fun d => bigSep Finset.univ fun h =>
          iprop(Φ (.dma (sndN d h)) ∗ bigSep (Finset.range (cnt d)) fun t => Φ (.dma (rcvN d h t)))) := by
  rw [bigSep_univ_sum, bigSep_univ_sum, bigSep_univ_prod, bigSep_univ_prod, bigSep_univ_prod]
  have hR : ∀ h : Bool, bigSep Finset.univ (fun b : Fin 16 => Φ (osem (.inr (.inl (h, b))))) = bigSep (Finset.range (cnt false)) fun t => Φ (.dma (rcvN false h t)) :=
    fun h => Idealize.ShloMosaic.Ring.bigSep_fin_eq_range 16 _ _ fun _ _ => rfl
  have hL : ∀ h : Bool, bigSep Finset.univ (fun b : Fin 15 => Φ (osem (.inr (.inr (h, b))))) = bigSep (Finset.range (cnt true)) fun t => Φ (.dma (rcvN true h t)) :=
    fun h => Idealize.ShloMosaic.Ring.bigSep_fin_eq_range 15 _ _ fun _ _ => rfl
  simp only [hR, hL]
  refine Eq.trans ?_ (bigSep_congr fun d _ => (bigSep_sep Finset.univ (fun h => Φ (.dma (sndN d h)))
    (fun h => bigSep (Finset.range (cnt d)) fun t => Φ (.dma (rcvN d h t)))).symm)
  refine Eq.trans ?_ (bigSep_sep Finset.univ _ _).symm
  rw [bigSep_bool fun d => bigSep Finset.univ fun h => bigSep (Finset.range (cnt d)) fun t => Φ (.dma (rcvN d h t))]
  rfl

end Cert.KernelIdeal.Ring
-- ==== Proof.Flow.lean ====
/-
One flow on one device: its ghost state, and what its waits, sends and stores do to it.
-/
module

public import proofs.«01_k».proof.Proof.Proto
public import Idealize.SL.BI.BigOpNat

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (A : Bool → ℕ → Dev nD → FVec F S128x2048 .bf16) (K : GSem nD τ sig → ℕ)

/-- One member of a family. -/
theorem pick {I : Type} [DecidableEq I] {s : Finset I} (Φ : I → sProp 𝕄) {i : I} (hi : i ∈ s) : (bigSep s Φ : sProp 𝕄) ⊢ Φ i := bigSep_elim hi

/-! ## What all devices know -/

def barEmb : Dev nD ↪ GSem nD τ sig := ⟨bar, fun a b h => by
  have := congrArg (fun g : GSem nD τ sig => g.1.1) h; exact this⟩

theorem osem_inj : Function.Injective osem := by decide +kernel

def ownEmb : Dev nD × Own ↪ GSem nD τ sig := ⟨fun p => ((p.1 : Thread nD τ), osem p.2), fun a b h => by
  have h1 := congrArg (fun g : GSem nD τ sig => g.1.1) h
  have h2 := congrArg (fun g : GSem nD τ sig => g.2) h
  exact Prod.ext h1 (osem_inj h2)⟩

/-- The barrier cells, and the cells of the kernel's own semaphores. -/
def barCells : Finset (GSem nD τ sig) := Finset.univ.map barEmb
def ownCells : Finset (GSem nD τ sig) := Finset.univ.map ownEmb

theorem bar_mem (c : Dev nD) : bar c ∈ barCells := Finset.mem_map.mpr ⟨c, Finset.mem_univ _, rfl⟩
theorem own_mem (c : Dev nD) (k : Own) : ((c : Thread nD τ), osem k) ∈ ownCells := Finset.mem_map.mpr ⟨(c, k), Finset.mem_univ _, rfl⟩
theorem snd_mem (d h : Bool) (c : Dev nD) : snd d h c ∈ ownCells := own_mem c (.inl (d, h))
theorem rcv_mem (d h : Bool) {t : ℕ} (ht : t < cnt d) (c : Dev nD) : rcv d h t c ∈ ownCells := by
  cases d
  · exact own_mem c (.inr (.inl (h, ⟨t, ht⟩)))
  · exact own_mem c (.inr (.inr (h, ⟨t, ht⟩)))

/-- The order of the waits, the protocol of every cell, and that the barriers are open. -/
def ctx : sProp 𝕄 :=
  iprop(levAts L lv ∗ (bigSep (barCells ∪ ownCells) fun g => cellInv ER (Rd A) (K g) g) ∗ bigSep barCells fun g => reached ER g 0)

instance ctx_persistent : BI.Persistent (ctx A K) := by unfold ctx; infer_instance

theorem ctx_wait (c : Dev nD) (sm : SemLoc sig) {n : ℕ} (hn : lvOf (role sm) ≤ n) {O : CellTallies nD τ sig Unit} (hO : Above n O) :
    ctx A K ⊢ (MayWait (c : Thread nD τ) sm () O : sProp 𝕄) := by
  unfold ctx; iintro ⟨H, -⟩
  iapply (mayWait_of c sm hn hO); iexact H

theorem ctx_inv {g : GSem nD τ sig} (hg : g ∈ barCells ∪ ownCells) : ctx A K ⊢ cellInv ER (Rd A) (K g) g := by
  unfold ctx; iintro ⟨-, H, -⟩
  iapply (pick (fun g => cellInv ER (Rd A) (K g) g) hg); iexact H

theorem ctx_bar (c : Dev nD) : ctx A K ⊢ cellInv ER (Rd A) (K (bar c)) (bar c) :=
  ctx_inv A K (Finset.mem_union_left _ (bar_mem c))
theorem ctx_snd (d h : Bool) (c : Dev nD) : ctx A K ⊢ cellInv ER (Rd A) (K (snd d h c)) (snd d h c) :=
  ctx_inv A K (Finset.mem_union_right _ (snd_mem d h c))
theorem ctx_rcv (d h : Bool) {t : ℕ} (ht : t < cnt d) (c : Dev nD) : ctx A K ⊢ cellInv ER (Rd A) (K (rcv d h t c)) (rcv d h t c) :=
  ctx_inv A K (Finset.mem_union_right _ (rcv_mem d h ht c))
theorem ctx_open (c : Dev nD) : ctx A K ⊢ (reached ER (bar c) 0 : sProp 𝕄) := by
  unfold ctx; iintro ⟨-, -, H⟩
  iapply (pick (fun g => reached ER g 0) (bar_mem c)); iexact H

/-! ## The state of a flow -/

/-- What is left to pay from hop `k` on. -/
def toks (d h : Bool) (k : ℕ) (c : Dev nD) : sProp 𝕄 :=
  bigSep (Finset.Ico k (cnt d)) fun t => iprop(dutyTok ER (snd d h c) t false ∗ dutyTok ER (rcv d h t (dst d c)) 0 false)

/-- What is left to wait for from hop `k` on, and the receive cells done with. -/
def wants (d h : Bool) (k : ℕ) (c : Dev nD) : sProp 𝕄 :=
  iprop((bigSep (Finset.Ico k (cnt d)) fun t => iprop(atPos ER (rcv d h t c) 0 ∅ 0 ∗ cred (tallyAt (rcv d h t c) () N)))
    ∗ bigSep (Finset.range k) fun t => atPos ER (rcv d h t c) 1 ∅ 0)

/-- The receive cells of the neighbour are open. -/
def met (d h : Bool) (c : Dev nD) : sProp 𝕄 :=
  bigSep (Finset.range (cnt d)) fun t => reached ER (rcv d h t (dst d c)) 0

instance met_persistent (d h : Bool) (c : Dev nD) : BI.Persistent (met (F := F) d h c) := by unfold met; infer_instance

/-- Ready to start hop `k`. -/
def ready (d h : Bool) (k : ℕ) (c : Dev nD) : sProp 𝕄 :=
  iprop(atPos ER (snd d h c) k ∅ 0 ∗ reached ER (snd d h c) k ∗ toks d h k c ∗ wants d h k c)

/-- Hop `k` is under way. -/
def flying (d h : Bool) (k : ℕ) (c : Dev nD) : sProp 𝕄 :=
  iprop(atPos ER (snd d h c) k ∅ 0 ∗ cred (tallyAt (snd d h c) () N) ∗ toks d h (k + 1) c ∗ wants d h k c)

/-- What a device owes, whatever it has waited for. -/
def owesE (c : Dev nD) (O : CellTallies nD τ sig Unit) : sProp 𝕄 := iprop(∃ W, owes (c : Thread nD τ) O W)

theorem toks_succ (d h : Bool) {k : ℕ} (hk : k < cnt d) (c : Dev nD) :
    toks (F := F) d h k c = iprop((dutyTok ER (snd d h c) k false ∗ dutyTok ER (rcv d h k (dst d c)) 0 false) ∗ toks d h (k + 1) c) := by
  unfold toks; rw [bigSep_Ico_succ_bot hk]

/-! ## Running pieces of the kernel -/

abbrev 𝒱₀ : Variants := Variants.none

/-- Device `c` runs `p` and ends in `Q`. -/
abbrev run {α : Type} (c : Dev nD) (p : P F α) (Q : α → sProp 𝕄) : sProp 𝕄 :=
  wp frame (wpE (defs₀ (F := F)) 𝒱₀ (c : Thread nD τ) none) Set.univ p Q

theorem run_bind {α β : Type} (c : Dev nD) (p : P F α) (k : α → P F β) (Q : β → sProp 𝕄) :
    run c (p >>= k) Q = run c p fun a => run c (k a) Q := by
  simp only [run, wp_bind]

theorem run_ret {α : Type} (c : Dev nD) (a : α) (Q : α → sProp 𝕄) : Q a ⊢ run c (pure a : P F α) Q := by
  show _ ⊢ wp frame _ Set.univ (Prog.ret a) Q
  rw [wp_ret]; iintro H; imodintro; iexact H

theorem lv_snd (d h : Bool) (k : ℕ) : lvOf (role (.dma (sndN d h))) ≤ k + 2 := by rw [role_snd]; exact Nat.zero_le _
theorem lv_rcv (d h : Bool) {k : ℕ} (hk : k < cnt d) : lvOf (role (.dma (rcvN d h k))) ≤ k + 2 := by rw [role_rcv d h hk]; exact Nat.le_refl _

/-- Wait for hop `k` of a flow: the send buffer comes back, and the receive buffer with what the
    neighbour sent. -/
theorem run_waits (c : Dev nD) (d h : Bool) (k : ℕ) (hk : k < cnt d) {O : CellTallies nD τ sig Unit} (hO : Above (k + 2) O)
    (Q : PUnit → sProp 𝕄) :
    iprop(ctx A K ∗ flying d h k c ∗ owesE c O)
      ⊢ iprop((ready d h (k + 1) c ∗ sAny d h c ∗ slotHas d h k c (acc A d h k (src d c)) ∗ credit d h k c ∗ owesE c O -∗ Q ⟨⟩)
          -∗ run c (waits d h k hk) Q) := by
  unfold flying owesE wants
  rw [bigSep_Ico_succ_bot hk]
  unfold waits run
  simp only [ssem_eq, rsem_eq, Prog.lift, Prog.bind_op, Prog.bind_ret]
  iintro ⟨#HX, ⟨HatS, HcS, Htok, ⟨⟨⟨HatR, HcR⟩, Hrest⟩, Hdone⟩⟩, %W, HO⟩ Hk
  iapply (Rounds.wp_wait_rest_token 𝒱₀ ER (Rd A) (c : Thread nD τ) none (κ := K (snd d h c))
      (wpE_waitDma2_eq 𝒱₀ (c : Thread nD τ) none Set.univ) (Set.mem_univ _) () (O := O) (W := W) (R := k) (m := 0) (T := ∅)
      (by rw [Nat.zero_add, sbuf_credit]; exact (expect_snd A d h c hk).symm)) $$ [HcS HO HatS]
  · isplitr; · iapply (ctx_snd A K d h c); iexact HX
    isplitl [HcS]; · rw [sbuf_credit]; iexact HcS
    isplitl [HO]; · iexact HO
    isplitr
    · iapply (ctx_wait A K c (.dma (sndN d h)) (lv_snd d h k) hO); iexact HX
    iexact HatS
  iintro ⟨HO, HatS, #HrS, Hpay⟩
  ihave Hs := (Entails.of_eq (rest_snd A d h c hk)) $$ Hpay
  iapply (Rounds.wp_wait_rest_token 𝒱₀ ER (Rd A) (c : Thread nD τ) none (κ := K (rcv d h k c))
      (wpE_waitDma2_eq 𝒱₀ (c : Thread nD τ) none Set.univ) (Set.mem_univ _) () (O := O) (W := insert (SemLoc.dma (sndN d h), ()) W) (R := 0) (m := 0) (T := ∅)
      (by rw [Nat.zero_add, slot_credit]; exact (expect_rcv A d h c hk).symm)) $$ [HcR HO HatR]
  · isplitr; · iapply (ctx_rcv A K d h hk c); iexact HX
    isplitl [HcR]; · rw [slot_credit]; iexact HcR
    isplitl [HO]; · iexact HO
    isplitr
    · iapply (ctx_wait A K c (.dma (rcvN d h k)) (lv_rcv d h hk) hO); iexact HX
    iexact HatR
  iintro ⟨HO, HatR, -, Hpay⟩
  ihave Hp := (Entails.of_eq (rest_rcv A d h c hk)) $$ Hpay
  unfold rcvPay
  icases Hp with ⟨Hslot, Hcr⟩
  rw [wp_ret]; imodintro
  iapply Hk
  unfold ready wants
  rw [bigSep_range_succ]
  isplitl [HatS Htok Hrest HatR Hdone]
  · isplitl [HatS]; · iexact HatS
    isplitr; · iexact HrS
    isplitl [Htok]; · iexact Htok
    isplitl [Hrest]; · iexact Hrest
    isplitl [HatR]; · iexact HatR
    iexact Hdone
  isplitl [Hs]; · iexact Hs
  isplitl [Hslot]; · iexact Hslot
  isplitl [Hcr]; · iexact Hcr
  iexists _; iexact HO

/-- Start hop `k` of a flow, from a send buffer that holds what it carries. -/
theorem run_send (c e : Dev nD) (d h : Bool) (k : ℕ) (hk : k < cnt d) (he : e = dst d c) {O₀ : CellTallies nD τ sig Unit}
    (O : CellTallies nD τ sig Unit) (hO : O₀ = O + tallyAt (rcv d h k (dst d c)) () N) (Q : PUnit → sProp 𝕄) :
    iprop(ctx A K ∗ ready d h k c ∗ met d h c ∗ sHas d h c (acc A d h k c) ∗ slotAny d h k (dst d c) ∗ credit d h k (dst d c) ∗ owesE c O₀)
      ⊢ iprop((flying d h k c ∗ owesE c O -∗ Q ⟨⟩) -∗ run c (send d h k hk e) Q) := by
  subst he
  unfold ready owesE sHas slotAny owns
  rw [toks_succ d h hk]
  unfold send run
  simp only [ssem_eq, rsem_eq, Prog.lift]
  iintro ⟨#HX, ⟨HatS, #HrS, ⟨⟨HtS, HtR⟩, Htok⟩, Hw⟩, #Hmet, ⟨%fs, %hfs, Hs⟩, ⟨%fd, Hd⟩, Hcr, %W, HO⟩ Hk
  iapply (Rounds.wp_send_pointsTo_with 𝒱₀ ER (Rd A) (c : Thread nD τ) none (c' := (dst d c : Thread nD τ)) (src := sbuf d h) (dst := slot d h k)
      (sS := .dma (sndN d h)) (sem := .dma (rcvN d h k)) (q := fullShare) (fs := fs) (fd := fd) (F := credit d h k (dst d c))
      (κ₁ := K (snd d h c)) (κ₂ := K (rcv d h k (dst d c))) (r₁ := k) (r₂ := 0) (d₁ := false) (d₂ := false)
      (by rw [duties_snd A d h c hk]; exact Finset.mem_singleton_self _) (by rw [duties_rcv A d h (dst d c) hk]; exact Finset.mem_singleton_self _)
      () () N (slot_credit d h k) (amount_snd A d h c k false) (amount_rcv A d h (dst d c) hk 0 false) O hO (W := W)
      (by
        rw [payload_snd]; unfold sAny
        iintro H; iexists fs; iexact H)
      (by
        rw [payload_rcv A d h (dst d c) hk]; unfold rcvPay slotHas owns
        rw [src_dst]
        iintro ⟨H, Hc⟩
        isplitl [H]
        · iexists _; isplitr
          · ipureintro; exact (View.read_write_univ (v := (slot d h k).view) fd _).trans hfs
          iexact H
        iexact Hc)) $$ [HO HtS HtR Hs Hd Hcr]
  · isplitr; · iapply (ctx_snd A K d h c); iexact HX
    isplitr; · iapply (ctx_rcv A K d h hk (dst d c)); iexact HX
    isplitl [Hs]; · iexact Hs
    isplitl [Hd Hcr]
    · isplitl [Hd]; · iexact Hd
      iexact Hcr
    isplitl [HO]; · iexact HO
    isplitl [HtS]; · iexact HtS
    isplitr; · iexact HrS
    isplitl [HtR]; · iexact HtR
    unfold met
    iapply (pick (fun t => reached ER (rcv d h t (dst d c)) 0) (Finset.mem_range.mpr hk)); iexact Hmet
  iintro ⟨HcS, HO⟩
  rw [wp_ret]; imodintro
  iapply Hk
  unfold flying
  isplitr [HO]
  · isplitl [HatS]; · iexact HatS
    isplitl [HcS]; · iexact HcS
    isplitl [Htok]; · iexact Htok
    iexact Hw
  iexists _; iexact HO

theorem hz2 : (![0, 0] : Fin 2 → Nat) = fun _ => 0 := funext fun a => by fin_cases a <;> rfl

theorem stash_read (d h : Bool) (f : (sbuf d h).view.ty.Contents (Elt F)) (v : FVec F S128x1024 .bf16) :
    (sbuf d h).view.read (Elt F) (((sbuf d h).access sRect).write (Elt F) f v Finset.univ) = v :=
  match d, h with
  | false, false => Memref.write_access_unit_zero_univ (Elt F) cc0_scratch1 hz2 inb_S128x1024_S128x1024_0_0 f v
  | false, true => Memref.write_access_unit_zero_univ (Elt F) cc0_scratch2 hz2 inb_S128x1024_S128x1024_0_0 f v
  | true, false => Memref.write_access_unit_zero_univ (Elt F) cc0_scratch3 hz2 inb_S128x1024_S128x1024_0_0 f v
  | true, true => Memref.write_access_unit_zero_univ (Elt F) cc0_scratch4 hz2 inb_S128x1024_S128x1024_0_0 f v

/-- Store into a send buffer. -/
theorem run_stash (c : Dev nD) (d h : Bool) (v : FVec F S128x1024 .bf16) (Q : PUnit → sProp 𝕄) :
    sAny d h c ⊢ iprop((sHas d h c v -∗ Q ⟨⟩) -∗ run c (stash d h v) Q) := by
  unfold sAny sHas stash run owns
  simp only [Prog.lift, Prog.bind_op, Prog.bind_ret]
  iintro ⟨%f, H⟩ Hk
  iapply (wp_load_rect 𝒱₀ (c : Thread nD τ) none Set.univ (m := sbuf d h) (r := sRect) (S := (sbuf d h).view.set) (View.set_slice_subset _ _)) $$ H
  iintro H
  iapply (wp_store 𝒱₀ (c : Thread nD τ) none Set.univ (m := sbuf d h) (r := sRect) (S := (sbuf d h).view.set)
    ((View.setOn_subset_set _ _).trans (View.set_slice_subset _ _))) $$ H
  iintro H
  rw [wp_ret]; imodintro
  iapply Hk
  iexists _; isplitr
  swap; · iexact H
  ipureintro
  exact stash_read d h f v

/-- Read what a hop brought. -/
theorem run_arrived (c : Dev nD) (d h : Bool) (k : ℕ) (X : FVec F S128x1024 .bf16) (Q : Vec F S1x128x1024 .bf16 → sProp 𝕄) :
    slotHas d h k c X ⊢ iprop((slotHas d h k c X -∗ Q (lift3 X)) -∗ run c (arrived d h k) Q) := by
  unfold slotHas arrived run owns
  simp only [Prog.lift]
  iintro ⟨%f, %hf, H⟩ Hk
  iapply (wp_load_rect 𝒱₀ (c : Thread nD τ) none Set.univ (m := rbuf d h) (r := slotRect k) (S := (slot d h k).view.set)
    (subset_of_eq (View.set_reshape (v := (rbuf d h).view.slice (slotRect k)) squeezes_S1x128x1024_S128x1024.numel_eq).symm)) $$ H
  iintro H
  rw [wp_ret]; imodintro
  rw [show ((rbuf d h).access (slotRect k)).read (Elt F) f = lift3 X from lift3_of hf]
  iapply Hk
  iexists f; isplitr; · ipureintro; exact hf
  iexact H

/-- Take a hop in: wait for it, and put its sum with the own part into the send buffer. -/
theorem run_take (c : Dev nD) (d h : Bool) (k : ℕ) (hk : k < cnt d) {O : CellTallies nD τ sig Unit} (hO : Above (k + 2) O)
    (Q : PUnit → sProp 𝕄) :
    iprop(ctx A K ∗ flying d h k c ∗ owesE c O)
      ⊢ iprop((ready d h (k + 1) c ∗ sHas d h c (acc A d h (k + 1) c) ∗ slotAny d h k c ∗ credit d h k c ∗ owesE c O -∗ Q ⟨⟩)
          -∗ run c (take d h k hk (A d (k + 1) c)) Q) := by
  unfold take
  rw [run_bind]
  iintro H Hk
  iapply (run_waits A K c d h k hk hO) $$ H
  iintro ⟨Hr, Hs, Hslot, Hcr, HO⟩
  rw [run_bind]
  iapply (run_arrived c d h k) $$ Hslot
  iintro Hslot
  iapply (run_stash c d h) $$ Hs
  iintro Hs
  iapply Hk
  isplitl [Hr]; · iexact Hr
  isplitl [Hs]; · iexact Hs
  isplitl [Hslot]; · iapply (slotHas_any d h k c); iexact Hslot
  isplitl [Hcr]; · iexact Hcr
  iexact HO

end Cert.KernelIdeal.Ring
-- ==== Proof.Reads.lean ====
/-
What a device reads: its two operand blocks, the scales, and the tables of the host; and the own
parts it makes from them.
-/
module

public import proofs.«01_k».proof.Proof.Flow

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What one device finds in its staging buffers. -/
structure Given (F : FTy → Type) [FloatOps F] where
  x : FVec F S4096x128 .fp8e4m3
  w : FVec F S128x2048 .fp8e5m2
  sx : FVec F S1 .f32
  sw : FVec F S1 .f32
  near : S2.Idx → BitVec 32
  goR : S16.Idx → BitVec 32
  goL : S15.Idx → BitVec 32

/-- The tables of device `c` are those of the ring. -/
structure Given.Tables (g : Given F) (c : Dev nD) : Prop where
  right : g.near (ix1 0) = BitVec.ofNat 32 (dst false c).val
  left : g.near (ix1 1) = BitVec.ofNat 32 (dst true c).val
  goR : ∀ k : Fin 16, g.goR (ix1 k) = BitVec.ofNat 32 (goal false k.val c).val
  goL : ∀ k : Fin 15, g.goL (ix1 k) = BitVec.ofNat 32 (goal true k.val c).val

theorem rows_inb (r : Dev nD) : k0_chk3 (BitVec.ofNat 32 r.val) := by
  have h : ∀ r : Dev nD, k0_chk3 (BitVec.ofNat 32 r.val) := by decide +kernel
  exact h r

/-- The rows of the left-hand block that belong to device `r`. -/
def rows (g : Given F) (r : Dev nD) : FVec F S128x128 .fp8e4m3 :=
  (Memref.whole cc0_stg0_0).view.readAt (Elt F)
    (Rect.unit (s := S4096x128) (k0_off1 (BitVec.ofNat 32 r.val)) S128x128.size (k0_off1_inb _ (rows_inb r))).toLoadRect g.x

/-- The part of the rows of device `r` that the columns of this device make. -/
def part (g : Given F) (r : Dev nD) : FVec F S128x2048 .bf16 := k0_pay3 (rows g r) (k0_pay2 g.w)

/-- The own part of hop `k` of a direction, on every device. -/
def parts (G : Dev nD → Given F) (d : Bool) (k : ℕ) (c : Dev nD) : FVec F S128x2048 .bf16 := part (G c) (goal d k c)

/-- A whole buffer of device `c` at given contents. -/
abbrev held (c : Dev nD) (b : Ref sig .tc) (X : b.ty.Contents (Elt F)) : sProp 𝕄 :=
  (((c : Thread nD τ).loc b) ↦{fullShare} (X : Buf (Elt F) ((c : Thread nD τ).loc b)))

/-- The buffers a device reads and does not change. -/
def inputs (g : Given F) (c : Dev nD) : sProp 𝕄 :=
  iprop(held c cc0_stg0_0 g.x ∗ held c cc0_stg1_0 g.w ∗ held c cc0_stg2_0 g.sx ∗ held c cc0_stg3_0 g.sw
    ∗ held c cc0_stg4_0 g.near ∗ held c cc0_stg5_0 g.goR ∗ held c cc0_stg6_0 g.goL)

/-- The same, with the right-hand block in its wider format. -/
def inputsW (g : Given F) (c : Dev nD) : sProp 𝕄 := iprop(inputs g c ∗ held c cc0_scratch0 (k0_pay2 g.w))

/-- A load of one element at place `k` reads it. -/
theorem at_one {n : ℕ} (k : ℕ) (hk : k < n) (inb : ∀ a, (![k] : Fin 1 → ℕ) a + S1.size a ≤ (⟨1, ![n]⟩ : Shape).size a)
    (x : S1.Idx) : (Rect.unit (s := ⟨1, ![n]⟩) ![k] S1.size inb).toLoadRect.idx x = ix1 ⟨k, hk⟩ := by
  funext a
  obtain rfl : a = 0 := Subsingleton.elim a 0
  refine Fin.ext ?_
  have h1 := (x 0).isLt
  have h2 : S1.size 0 = 1 := rfl
  have h0 : (x 0).val = 0 := by omega
  show k + 1 * (x 0).val = k
  omega

theorem run_loadW (c : Dev nD) (Q : Vec F S128x2048 .bf16 → sProp 𝕄) (X : FVec F S128x2048 .bf16) :
    (held c cc0_scratch0 X : sProp 𝕄) ⊢ iprop((held c cc0_scratch0 X -∗ Q X) -∗ run c loadW Q) := by
  unfold loadW run
  simp only [Prog.lift]
  iintro H Hk
  iapply (wp_load 𝒱₀ (c : Thread nD τ) none Set.univ (m := Memref.whole cc0_scratch0) (Finset.subset_univ _)) $$ H; iintro H
  rw [wp_ret, show (Memref.whole cc0_scratch0).view.readAt (Elt F) (Rect.unit (s := S128x2048) ![0, 0] S128x2048.size inb_S128x2048_S128x2048_0_0).toLoadRect X = X
    from Memref.readAt_unit_zero (Elt F) cc0_scratch0 hz2 _ X]; imodintro
  iapply Hk; iexact H

theorem run_chunkOf (g : Given F) (c r : Dev nD) (v : Elt F .i32) (hv : v = BitVec.ofNat 32 r.val) (Q : FVec F S128x2048 .bf16 → sProp 𝕄) :
    inputsW g c ⊢ iprop((inputsW g c -∗ Q (part g r)) -∗ run c (chunkOf v) Q) := by
  subst hv
  unfold inputsW inputs chunkOf part rows
  rw [run_bind]
  iintro ⟨⟨Hx, Hr⟩, Hw⟩ Hk
  unfold run
  simp only [Prog.lift]
  iapply (wp_assume 𝒱₀ (c : Thread nD τ) none Set.univ (rows_inb r))
  rw [wp_ret]; imodintro
  simp only [Prog.bind_op, Prog.bind_ret]
  iapply (wp_load 𝒱₀ (c : Thread nD τ) none Set.univ (m := Memref.whole cc0_stg0_0) (Finset.subset_univ _)) $$ Hx; iintro Hx
  rw [wp_bind]
  iapply (run_loadW c) $$ Hw; iintro Hw
  rw [Prog.pure_eq_ret, wp_ret]; imodintro
  iapply Hk
  isplitr [Hw]
  · isplitl [Hx]; · iexact Hx
    iexact Hr
  iexact Hw

theorem run_chunk (g : Given F) (c : Dev nD) (hg : g.Tables c) (d : Bool) (k : ℕ) (hk : k < cnt d) (Q : FVec F S128x2048 .bf16 → sProp 𝕄) :
    inputsW g c ⊢ iprop((inputsW g c -∗ Q (part g (goal d k c))) -∗ run c (chunk d k hk) Q) := by
  cases d
  · unfold chunk
    rw [run_bind]
    unfold wordR smemLoad smemLoadElt run
    dsimp only
    unfold inputsW inputs
    iintro ⟨⟨H0, H1, H2, H3, H4, H5, H6⟩, Hw⟩ Hk
    iapply (wp_load 𝒱₀ (c : Thread nD τ) none Set.univ (m := Memref.whole cc0_stg5_0) (Finset.subset_univ _)) $$ H5; iintro H5
    rw [wp_ret]; imodintro
    iapply (run_chunkOf g c (goal false k c) _ ((congrArg g.goR (at_one k hk _ _)).trans (hg.goR ⟨k, hk⟩))) $$ [H0 H1 H2 H3 H4 H5 H6 Hw]
    · unfold inputsW inputs
      isplitr [Hw]
      · isplitl [H0]; · iexact H0
        isplitl [H1]; · iexact H1
        isplitl [H2]; · iexact H2
        isplitl [H3]; · iexact H3
        isplitl [H4]; · iexact H4
        isplitl [H5]; · iexact H5
        iexact H6
      iexact Hw
    unfold inputsW inputs
    iexact Hk
  · unfold chunk
    rw [run_bind]
    unfold wordL smemLoad smemLoadElt run
    dsimp only
    unfold inputsW inputs
    iintro ⟨⟨H0, H1, H2, H3, H4, H5, H6⟩, Hw⟩ Hk
    iapply (wp_load 𝒱₀ (c : Thread nD τ) none Set.univ (m := Memref.whole cc0_stg6_0) (Finset.subset_univ _)) $$ H6; iintro H6
    rw [wp_ret]; imodintro
    iapply (run_chunkOf g c (goal true k c) _ ((congrArg g.goL (at_one k hk _ _)).trans (hg.goL ⟨k, hk⟩))) $$ [H0 H1 H2 H3 H4 H5 H6 Hw]
    · unfold inputsW inputs
      isplitr [Hw]
      · isplitl [H0]; · iexact H0
        isplitl [H1]; · iexact H1
        isplitl [H2]; · iexact H2
        isplitl [H3]; · iexact H3
        isplitl [H4]; · iexact H4
        isplitl [H5]; · iexact H5
        iexact H6
      iexact Hw
    unfold inputsW inputs
    iexact Hk

/-! ## The neighbours -/

theorem near_right (r : Dev nD) : k0_chk2 (BitVec.ofNat 32 r.val) := by
  have h : ∀ r : Dev nD, k0_chk2 (BitVec.ofNat 32 r.val) := by decide +kernel
  exact h r
theorem near_left (r : Dev nD) : k0_chk1 (BitVec.ofNat 32 r.val) := by
  have h : ∀ r : Dev nD, k0_chk1 (BitVec.ofNat 32 r.val) := by decide +kernel
  exact h r
theorem right_eq (r : Dev nD) : k0_dev2 (BitVec.ofNat 32 r.val) = r.val := by
  have h : ∀ r : Dev nD, k0_dev2 (BitVec.ofNat 32 r.val) = r.val := by decide +kernel
  exact h r
theorem left_eq (r : Dev nD) : k0_dev1 (BitVec.ofNat 32 r.val) = r.val := by
  have h : ∀ r : Dev nD, k0_dev1 (BitVec.ofNat 32 r.val) = r.val := by decide +kernel
  exact h r

theorem named_eq (c : Dev nD) (v0 v1 : BitVec 32) (h0 : k0_chk2 v0) (h1 : k0_chk1 v1) (e0 : v0 = BitVec.ofNat 32 (dst false c).val)
    (e1 : v1 = BitVec.ofNat 32 (dst true c).val) : named v0 v1 h0 h1 = fun d => dst d c := by
  subst e0 e1
  funext d
  cases d
  · exact Fin.ext (right_eq _)
  · exact Fin.ext (left_eq _)

theorem run_neighbours (g : Given F) (c : Dev nD) (hg : g.Tables c) (Q : (Bool → Dev nD) → sProp 𝕄) :
    inputs g c ⊢ iprop((inputs g c -∗ Q fun d => dst d c) -∗ run c neighbours Q) := by
  unfold inputs neighbours smemLoad smemLoadElt run
  simp only [Prog.lift, Prog.bind_op, Prog.bind_ret]
  iintro ⟨H0, H1, H2, H3, H4, H5, H6⟩ Hk
  have hr : ∀ x, (Memref.whole cc0_stg4_0).view.readAt (Elt F) (Rect.unit (s := S2) ![0] S1.size inb_S2_S1_0).toLoadRect g.near x = BitVec.ofNat 32 (dst false c).val :=
    fun x => (congrArg g.near (at_one 0 (by decide) inb_S2_S1_0 x)).trans hg.right
  have hl : ∀ x, (Memref.whole cc0_stg4_0).view.readAt (Elt F) (Rect.unit (s := S2) ![1] S1.size inb_S2_S1_1).toLoadRect g.near x = BitVec.ofNat 32 (dst true c).val :=
    fun x => (congrArg g.near (at_one 1 (by decide) inb_S2_S1_1 x)).trans hg.left
  iapply (wp_load 𝒱₀ (c : Thread nD τ) none Set.univ (m := Memref.whole cc0_stg4_0) (Finset.subset_univ _)) $$ H4; iintro H4
  iapply (wp_assume 𝒱₀ (c : Thread nD τ) none Set.univ (Eq.mpr (congrArg k0_chk2 (hr _)) (near_right (dst false c))))
  iapply (wp_load 𝒱₀ (c : Thread nD τ) none Set.univ (m := Memref.whole cc0_stg4_0) (Finset.subset_univ _)) $$ H4; iintro H4
  iapply (wp_assume 𝒱₀ (c : Thread nD τ) none Set.univ (Eq.mpr (congrArg k0_chk1 (hl _)) (near_left (dst true c))))
  rw [Prog.pure_eq_ret, wp_ret]; imodintro
  rw [← named_eq c _ _ (Eq.mpr (congrArg k0_chk2 (hr _)) (near_right (dst false c))) (Eq.mpr (congrArg k0_chk1 (hl _)) (near_left (dst true c))) (hr _) (hl _)]
  iapply Hk
  isplitl [H0]; · iexact H0
  isplitl [H1]; · iexact H1
  isplitl [H2]; · iexact H2
  isplitl [H3]; · iexact H3
  isplitl [H4]; · iexact H4
  isplitl [H5]; · iexact H5
  iexact H6

/-! ## The operands of the end -/

theorem run_widen (g : Given F) (c : Dev nD) (Q : PUnit → sProp 𝕄) :
    iprop(inputs g c ∗ ∃ f, held c cc0_scratch0 f) ⊢ iprop((inputsW g c -∗ Q ⟨⟩) -∗ run c widen Q) := by
  unfold inputsW inputs widen run
  simp only [Prog.lift, Prog.bind_op, Prog.bind_ret]
  iintro ⟨⟨H0, H1, Hr⟩, %f, Hw⟩ Hk
  iapply (wp_load 𝒱₀ (c : Thread nD τ) none Set.univ (m := Memref.whole cc0_stg1_0) (Finset.subset_univ _)) $$ H1; iintro H1
  rw [wp_bind]
  iapply (run_loadW c) $$ Hw; iintro Hw
  iapply (wp_store 𝒱₀ (c : Thread nD τ) none Set.univ (m := Memref.whole cc0_scratch0)
    (r := Rect.unit (s := S128x2048) ![0, 0] S128x2048.size inb_S128x2048_S128x2048_0_0) (Finset.subset_univ _)) $$ Hw; iintro Hw
  rw [wp_ret]; imodintro
  rw [show (Memref.whole cc0_stg1_0).view.readAt (Elt F) (Rect.unit (s := S128x2048) ![0, 0] S128x2048.size inb_S128x2048_S128x2048_0_0).toLoadRect g.w = g.w
    from Memref.readAt_unit_zero (Elt F) cc0_stg1_0 hz2 _ g.w,
    show ((Memref.whole cc0_scratch0).access (Rect.unit (s := S128x2048) ![0, 0] S128x2048.size inb_S128x2048_S128x2048_0_0)).write (Elt F) f (k0_pay2 g.w) Finset.univ = k0_pay2 g.w
    from Memref.write_access_unit_zero_univ (Elt F) cc0_scratch0 hz2 _ f _]
  iapply Hk
  isplitr [Hw]
  · isplitl [H0]; · iexact H0
    isplitl [H1]; · iexact H1
    iexact Hr
  iexact Hw

/-- The product of the own rows with the own columns. -/
def ownPart (g : Given F) (c : Dev nD) : FVec F S128x2048 .f32 := k0_pay107 (rows g c) (k0_pay2 g.w)

/-- The product of the scales. -/
def scaleOf (g : Given F) : F .f32 := k0_pay108 (g.sx (ix1 0)) (g.sw (ix1 0))

theorem own_rows (g : Given F) (c : Dev nD) (X : (cc0_stg0_0 : Ref sig .tc).ty.Contents (Elt F)) (hX : X = g.x) :
    (Memref.whole cc0_stg0_0).view.readAt (Elt F) (Rect.unit (s := S4096x128) (k0_off32 c) S128x128.size (k0_off32_inb c)).toLoadRect X = rows g c := by
  subst hX
  have h : ∀ c : Dev nD, k0_off32 c = k0_off1 (BitVec.ofNat 32 c.val) := by decide +kernel
  have e : ∀ (o : Fin 2 → Nat) (ho : ∀ a, o a + S128x128.size a ≤ S4096x128.size a), o = k0_off1 (BitVec.ofNat 32 c.val) →
      (Memref.whole cc0_stg0_0).view.readAt (Elt F) (Rect.unit (s := S4096x128) o S128x128.size ho).toLoadRect g.x = rows g c := by
    rintro o ho rfl; rfl
  exact e _ _ (h c)

theorem run_own (g : Given F) (c : Dev nD) (Q : FVec F S128x2048 .f32 → sProp 𝕄) :
    inputsW g c ⊢ iprop((inputsW g c -∗ Q (ownPart g c)) -∗ run c own Q) := by
  unfold inputsW inputs own run ownPart
  simp only [Prog.lift, Prog.bind_op, Prog.bind_ret, wp_deviceId]
  iintro ⟨⟨H0, Hr⟩, Hw⟩ Hk
  iapply (wp_load 𝒱₀ (c : Thread nD τ) none Set.univ (m := Memref.whole cc0_stg0_0) (Finset.subset_univ _)) $$ H0; iintro H0
  rw [wp_bind]
  iapply (run_loadW c) $$ Hw; iintro Hw
  rw [Prog.pure_eq_ret, wp_ret]; imodintro
  rw [own_rows g c _ rfl]
  iapply Hk
  isplitr [Hw]
  · isplitl [H0]; · iexact H0
    iexact Hr
  iexact Hw

theorem run_scale (g : Given F) (c : Dev nD) (Q : F .f32 → sProp 𝕄) :
    inputsW g c ⊢ iprop((inputsW g c -∗ Q (scaleOf g)) -∗ run c scale Q) := by
  unfold inputsW inputs scale run scaleOf smemLoad smemLoadElt
  simp only [Prog.bind_op, Prog.bind_ret]
  have hx : ∀ x, (Memref.whole cc0_stg2_0).view.readAt (Elt F) (Rect.unit (s := S1) ![0] S1.size inb_S1_S1_0).toLoadRect g.sx x = g.sx (ix1 0) :=
    fun x => congrArg g.sx (at_one 0 (by decide) inb_S1_S1_0 x)
  have hw : ∀ x, (Memref.whole cc0_stg3_0).view.readAt (Elt F) (Rect.unit (s := S1) ![0] S1.size inb_S1_S1_0).toLoadRect g.sw x = g.sw (ix1 0) :=
    fun x => congrArg g.sw (at_one 0 (by decide) inb_S1_S1_0 x)
  iintro ⟨⟨H0, H1, H2, H3, Hr⟩, Hw⟩ Hk
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg3_0) (Finset.subset_univ _)) $$ H3; iintro H3
  rw [Prog.pure_eq_ret, wp_ret]; imodintro
  rw [hx, hw]
  iapply Hk
  isplitr [Hw]
  · isplitl [H0]; · iexact H0
    isplitl [H1]; · iexact H1
    isplitl [H2]; · iexact H2
    isplitl [H3]; · iexact H3
    iexact Hr
  iexact Hw

end Cert.KernelIdeal.Ring
-- ==== Proof.Steps.lean ====
/-
The ring steps on one device: meeting the neighbours, and taking one hop in while the next one starts.
-/
module

public import proofs.«01_k».proof.Proof.Reads

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Bool → ℕ → Dev nD → FVec F S128x2048 .bf16) (K : GSem nD τ sig → ℕ)

/-! ## The barrier -/

/-- The receive cells of a device are open. -/
def opened (d h : Bool) (c : Dev nD) : sProp 𝕄 := bigSep (Finset.range (cnt d)) fun t => reached ER (rcv d h t c) 0

instance opened_persistent (d h : Bool) (c : Dev nD) : BI.Persistent (opened (F := F) d h c) := by unfold opened; infer_instance

theorem barPay_eq (u : Bool) (c : Dev nD) : barPay (F := F) u c
    = iprop((slotAny u false 0 (dst u c) ∗ opened u false (dst u c)) ∗ (slotAny u true 0 (dst u c) ∗ opened u true (dst u c))) := by
  unfold barPay; rw [bigSep_bool]; rfl

/-- Tell one neighbour that the receive buffers for what it sends are free. -/
theorem run_greet (c e : Dev nD) (u : Bool) (he : e = src u c) (O : CellTallies nD τ sig Unit) (Q : PUnit → sProp 𝕄) :
    iprop(ctx A K ∗ dutyTok ER (bar (src u c)) 0 u ∗ opened u false c ∗ opened u true c ∗ slotAny u false 0 c ∗ slotAny u true 0 c
        ∗ owesE c (O + tallyAt (bar (src u c)) () 1))
      ⊢ iprop((owesE c O -∗ Q ⟨⟩) -∗ run c (greet e) Q) := by
  subst he
  unfold owesE greet semSignalWord run
  iintro ⟨#HX, Ht, #Ho0, #Ho1, Hs0, Hs1, %W, HO⟩ Hk
  iapply (Rounds.wp_signal 𝒱₀ ER (Rd A) (c : Thread nD τ) none (dst := (src u c : Thread nD τ)) (κ := K (bar (src u c)))
      (d := u) (r := 0) (by rw [duties_bar]; exact Finset.mem_univ _) ((amount_bar A (src u c) 0 u).trans (by decide)) () O rfl) $$ [HO Ht Hs0 Hs1]
  · isplitr; · iapply (ctx_bar A K (src u c)); iexact HX
    isplitl [HO]; · iexact HO
    isplitl [Ht]; · iexact Ht
    isplitl [Hs0 Hs1]
    · rw [payload_bar, barPay_eq, dst_src]
      isplitl [Hs0]
      · isplitl [Hs0]; · iexact Hs0
        iexact Ho0
      isplitl [Hs1]; · iexact Hs1
      iexact Ho1
    iapply (ctx_open A K (src u c)); iexact HX
  iintro HO
  rw [wp_ret]; imodintro
  iapply Hk
  iexists W; iexact HO

/-- Wait for both neighbours. -/
theorem run_meet (c : Dev nD) {O : CellTallies nD τ sig Unit} (hO : Above 1 O) (Q : PUnit → sProp 𝕄) :
    iprop(ctx A K ∗ atPos ER (bar c) 0 ∅ 0 ∗ cred (tallyAt (bar c) () 2) ∗ owesE c O)
      ⊢ iprop((atPos ER (bar c) 1 ∅ 0 ∗ (barPay false c ∗ barPay true c) ∗ owesE c O -∗ Q ⟨⟩) -∗ run c (semWaitWord bsem 2#32) Q) := by
  unfold owesE semWaitWord run
  iintro ⟨#HX, Hat, Hc, %W, HO⟩ Hk
  iapply (Rounds.wp_wait_rest_token 𝒱₀ ER (Rd A) (c : Thread nD τ) none (κ := K (bar c))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (ctx_bar A K c); iexact HX
    isplitl [Hc]; · iexact Hc
    isplitl [HO]; · iexact HO
    isplitr
    · iapply (ctx_wait A K c (.reg bsem) (n := 1) (by rw [role_bar]; exact Nat.le_refl 1) hO); iexact HX
    iexact Hat
  iintro ⟨HO, Hat, -, Hpay⟩
  ihave Hp := (Entails.of_eq ((rest_bar A c).trans (bigSep_bool _))) $$ Hpay
  rw [wp_ret]; imodintro
  iapply Hk
  isplitl [Hat]; · iexact Hat
  isplitl [Hp]; · iexact Hp
  iexists _; iexact HO

/-! ## What stays true from the barrier on -/

/-- The protocol, and that the receive cells of both neighbours are open. -/
def known (c : Dev nD) : sProp 𝕄 :=
  iprop(ctx A K ∗ (met false false c ∗ met false true c) ∗ (met true false c ∗ met true true c))

instance known_persistent (c : Dev nD) : BI.Persistent (known A K c) := by unfold known; infer_instance

theorem known_ctx (c : Dev nD) : known A K c ⊢ ctx A K := by unfold known; iintro ⟨H, -⟩; iexact H
theorem known_met (d h : Bool) (c : Dev nD) : known A K c ⊢ met d h c := by
  unfold known
  cases d <;> cases h
  · iintro ⟨-, ⟨H, -⟩, -⟩; iexact H
  · iintro ⟨-, ⟨-, H⟩, -⟩; iexact H
  · iintro ⟨-, -, H, -⟩; iexact H
  · iintro ⟨-, -, -, H⟩; iexact H

/-! ## One half of a step -/

/-- The debts of one half from hop `k` on. -/
def pair (h : Bool) (k : ℕ) (c : Dev nD) : CellTallies nD τ sig Unit := debt false h k c + debt true h k c

theorem above_pair (h : Bool) {k n : ℕ} (hn : n < k + 2) (c : Dev nD) : Above n (pair h k c) :=
  (above_debt false h hn c).add (above_debt true h hn c)

/-- Hop `k` of both flows of a half is under way. -/
def air (h : Bool) (k : ℕ) (c : Dev nD) : sProp 𝕄 := iprop(flying false h k c ∗ flying true h k c)

/-- The receive buffer a device keeps when its neighbour has no hop left to send into it. -/
def kept (h : Bool) (k : ℕ) (c : Dev nD) : sProp 𝕄 := if k + 1 < 15 then iprop(emp) else slotAny true h (k + 1) c

/-- A buffer taken out of is the permission for the hop after the next. -/
theorem give_right (h : Bool) (k : ℕ) (hk : k + 1 < 15) (c : Dev nD) :
    slotAny (F := F) true h k c ⊢ iprop(credit false h (k + 1) (dst false c) ∗ kept h (k + 1) c) := by
  unfold credit kept
  rw [slotAny_parity true h (k := k) (k' := k + 1 + 1) (by omega), src_dst]
  by_cases e : k + 1 + 1 < 15
  · rw [if_pos (show k + 1 + 1 < cnt (!false) from e), if_pos e]
    iintro H; isplitl [H]; · iexact H
    iempintro
  · rw [if_neg (show ¬ k + 1 + 1 < cnt (!false) from e), if_neg e]
    iintro H; isplitr; · iempintro
    iexact H

theorem give_left (h : Bool) (k : ℕ) (hk : k + 1 < 15) (c : Dev nD) :
    slotAny (F := F) false h k c ⊢ credit true h (k + 1) (dst true c) := by
  unfold credit
  rw [slotAny_parity false h (k := k) (k' := k + 1 + 1) (by omega), src_dst, if_pos (show k + 1 + 1 < cnt (!true) from by show k + 1 + 1 < 16; omega)]
  exact BI.Entails.refl _

/-- The permission that came with a hop is the one for the opposite flow's next hop. -/
theorem use_right (h : Bool) (k : ℕ) (hk : k + 1 < 16) (c : Dev nD) : credit (F := F) true h k c = slotAny false h (k + 1) (dst false c) := by
  unfold credit; exact if_pos hk
theorem use_left (h : Bool) (k : ℕ) (hk : k + 1 < 15) (c : Dev nD) : credit (F := F) false h k c = slotAny true h (k + 1) (dst true c) := by
  unfold credit; exact if_pos hk

theorem run_halfStep (c : Dev nD) (h : Bool) (k : ℕ) (hk : k + 1 < 15) {O : CellTallies nD τ sig Unit} (hO : Above (k + 2) O) (Q : PUnit → sProp 𝕄) :
    iprop(known A K c ∗ air h k c ∗ owesE c (pair h (k + 1) c + O))
      ⊢ iprop((air h (k + 1) c ∗ kept h (k + 1) c ∗ owesE c (pair h (k + 2) c + O) -∗ Q ⟨⟩)
          -∗ run c (halfStep (fun d => dst d c) h k hk (A false (k + 1) c) (A true (k + 1) c)) Q) := by
  have hr : k + 1 < cnt false := by show k + 1 < 16; omega
  have hl : k + 1 < cnt true := hk
  have hA : Above (k + 2) (pair h (k + 1) c + O) := (above_pair h (by omega) c).add hO
  have e₁ : pair h (k + 1) c + O = debt false h (k + 2) c + debt true h (k + 1) c + O + tallyAt (rcv false h (k + 1) (dst false c)) () N := by
    unfold pair; rw [debt_succ false h hr c]; ac_rfl
  have e₂ : debt false h (k + 2) c + debt true h (k + 1) c + O = pair h (k + 2) c + O + tallyAt (rcv true h (k + 1) (dst true c)) () N := by
    unfold pair; rw [debt_succ true h hl c]; ac_rfl
  unfold air halfStep
  rw [run_bind]
  iintro ⟨#HX, ⟨HR, HL⟩, HO⟩ Hk
  iapply (run_take A K c false h k _ hA) $$ [HR HO]
  · isplitr; · iapply (known_ctx A K c); iexact HX
    isplitl [HR]; · iexact HR
    iexact HO
  iintro ⟨HR, HsR, HslotR, HcR, HO⟩
  rw [run_bind]
  iapply (run_take A K c true h k _ hA) $$ [HL HO]
  · isplitr; · iapply (known_ctx A K c); iexact HX
    isplitl [HL]; · iexact HL
    iexact HO
  iintro ⟨HL, HsL, HslotL, HcL, HO⟩
  ihave Hgr := (give_right h k hk c) $$ HslotL
  icases Hgr with ⟨Hgr, Hkept⟩
  ihave Hgl := (give_left h k hk c) $$ HslotR
  ihave Hur := (Entails.of_eq (use_right h k (by omega) c)) $$ HcL
  ihave Hul := (Entails.of_eq (use_left h k hk c)) $$ HcR
  rw [run_bind]
  iapply (run_send A K c (dst false c) false h (k + 1) hr rfl (debt false h (k + 2) c + debt true h (k + 1) c + O) e₁) $$ [HR HsR Hur Hgr HO]
  · isplitr; · iapply (known_ctx A K c); iexact HX
    isplitl [HR]; · iexact HR
    isplitr; · iapply (known_met A K false h c); iexact HX
    isplitl [HsR]; · iexact HsR
    isplitl [Hur]; · iexact Hur
    isplitl [Hgr]; · iexact Hgr
    iexact HO
  iintro ⟨HR, HO⟩
  iapply (run_send A K c (dst true c) true h (k + 1) hl rfl (pair h (k + 2) c + O) e₂) $$ [HL HsL Hul Hgl HO]
  · isplitr; · iapply (known_ctx A K c); iexact HX
    isplitl [HL]; · iexact HL
    isplitr; · iapply (known_met A K true h c); iexact HX
    isplitl [HsL]; · iexact HsL
    isplitl [Hul]; · iexact Hul
    isplitl [Hgl]; · iexact Hgl
    iexact HO
  iintro ⟨HL, HO⟩
  iapply Hk
  isplitl [HR HL]
  · isplitl [HR]; · iexact HR
    iexact HL
  isplitl [Hkept]; · iexact Hkept
  iexact HO

/-! ## The steps -/

/-- Hop `k` of all flows is under way. -/
def ring (k : ℕ) (c : Dev nD) : sProp 𝕄 :=
  iprop((air false k c ∗ kept false k c) ∗ (air true k c ∗ kept true k c) ∗ owesE c (pair false (k + 1) c + pair true (k + 1) c))

theorem kept_emp (h : Bool) (k : ℕ) (hk : k + 1 < 15) (c : Dev nD) : kept (F := F) h k c = iprop(emp) := if_pos hk

variable (G : Dev nD → Given F)

theorem run_step (c : Dev nD) (hg : (G c).Tables c) (k : ℕ) (hk : k + 1 < 15) (Q : PUnit → sProp 𝕄) :
    iprop(known (parts G) K c ∗ inputsW (G c) c ∗ ring k c)
      ⊢ iprop((inputsW (G c) c ∗ ring (k + 1) c -∗ Q ⟨⟩) -∗ run c (step (fun d => dst d c) k hk) Q) := by
  unfold ring step
  rw [run_bind, kept_emp false k hk, kept_emp true k hk]
  iintro ⟨#HX, Hin, ⟨Ha0, -⟩, ⟨Ha1, -⟩, HO⟩ Hk
  iapply (run_chunk (G c) c hg false (k + 1) _) $$ Hin; iintro Hin
  rw [run_bind]
  iapply (run_chunk (G c) c hg true (k + 1) _) $$ Hin; iintro Hin
  rw [run_bind]
  iapply (run_halfStep (parts G) K c false k hk (O := pair true (k + 1) c) (above_pair true (by omega) c)) $$ [Ha0 HO]
  · isplitr; · iexact HX
    isplitl [Ha0]; · iexact Ha0
    iexact HO
  iintro ⟨Ha0, Hk0, HO⟩
  rw [add_comm (pair false (k + 2) c) (pair true (k + 1) c)]
  iapply (run_halfStep (parts G) K c true k hk (O := pair false (k + 2) c) (above_pair false (by omega) c)) $$ [Ha1 HO]
  · isplitr; · iexact HX
    isplitl [Ha1]; · iexact Ha1
    iexact HO
  iintro ⟨Ha1, Hk1, HO⟩
  rw [add_comm (pair true (k + 2) c) (pair false (k + 2) c)]
  iapply Hk
  isplitl [Hin]; · iexact Hin
  isplitl [Ha0 Hk0]
  · isplitl [Ha0]; · iexact Ha0
    iexact Hk0
  isplitl [Ha1 Hk1]
  · isplitl [Ha1]; · iexact Ha1
    iexact Hk1
  iexact HO

theorem run_steps (c : Dev nD) (hg : (G c).Tables c) (n : ℕ) : ∀ (k : ℕ) (hk : k + n < 15) (Q : PUnit → sProp 𝕄),
    iprop(known (parts G) K c ∗ inputsW (G c) c ∗ ring k c)
      ⊢ iprop((inputsW (G c) c ∗ ring (k + n) c -∗ Q ⟨⟩) -∗ run c (steps (fun d => dst d c) n k hk) Q) := by
  induction n with
  | zero =>
    intro k hk Q
    unfold steps
    iintro ⟨-, H⟩ Hk
    iapply (run_ret c)
    iapply Hk $$ H
  | succ n ih =>
    intro k hk Q
    unfold steps
    rw [run_bind]
    iintro ⟨#HX, H⟩ Hk
    iapply (run_step K G c hg k _) $$ [H]
    · isplitr; · iexact HX
      iexact H
    iintro H
    iapply (ih (k + 1) _) $$ [H]
    · isplitr; · iexact HX
      iexact H
    rw [show k + 1 + n = k + (n + 1) by omega]
    iexact Hk

end Cert.KernelIdeal.Ring
-- ==== Proof.Body.lean ====
/-
The whole run of one device: from free buffers and unpaid debts to every hop taken in, every debt paid, and
the result stored.
-/
module

public import proofs.«01_k».proof.Proof.Steps
public import Idealize.ShloMosaic.Lib.Writes
public import Idealize.ShloMosaic.Lib.WritesUnit

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Bool → ℕ → Dev nD → FVec F S128x2048 .bf16) (K : GSem nD τ sig → ℕ)

/-! ## The start -/

/-- A flow before its first hop. -/
def fresh (d h : Bool) (c : Dev nD) : sProp 𝕄 :=
  iprop(ready d h 0 c ∗ sAny d h c ∗ slotAny d h 0 c ∗ slotAny d h 1 c ∗ opened d h c)

/-- What a device holds of the barriers. -/
def meeting (c : Dev nD) : sProp 𝕄 :=
  iprop(atPos ER (bar c) 0 ∅ 0 ∗ cred (tallyAt (bar c) () 2) ∗ dutyTok ER (bar (src false c)) 0 false ∗ dutyTok ER (bar (src true c)) 0 true)

/-- The debts of all flows from hop `k` on. -/
def dues (k : ℕ) (c : Dev nD) : CellTallies nD τ sig Unit := pair false k c + pair true k c

theorem above_dues {k n : ℕ} (hn : n < k + 2) (c : Dev nD) : Above n (dues k c) := (above_pair false hn c).add (above_pair true hn c)

/-- The debts at the start. -/
def debts (c : Dev nD) : CellTallies nD τ sig Unit :=
  dues 0 c + tallyAt (bar (src true c)) () 1 + tallyAt (bar (src false c)) () 1

/-- Start hop 0 of a flow; the permission for the neighbour is the other buffer of the opposite flow. -/
theorem run_first (c e : Dev nD) (d h : Bool) (hk : 0 < cnt d) (he : e = dst d c) (O : CellTallies nD τ sig Unit) (Q : PUnit → sProp 𝕄) :
    iprop(known A K c ∗ ready d h 0 c ∗ sHas d h c (half h (A d 0 c)) ∗ slotAny d h 0 (dst d c) ∗ slotAny (!d) h 1 c
        ∗ owesE c (O + debt d h 0 c))
      ⊢ iprop((flying d h 0 c ∗ owesE c (O + debt d h 1 c) -∗ Q ⟨⟩) -∗ run c (send d h 0 hk e) Q) := by
  have e₁ : O + debt d h 0 c = O + debt d h 1 c + tallyAt (rcv d h 0 (dst d c)) () N := by
    rw [debt_succ d h hk c]; ac_rfl
  have e₂ : credit (F := F) d h 0 (dst d c) = slotAny (!d) h 1 c := by
    unfold credit
    rw [if_pos (lt_of_lt_of_le (by decide : 0 + 1 < 15) (le_cnt (!d))), src_dst]
  iintro ⟨#HX, Hr, Hs, Hd, Hcr, HO⟩ Hk
  iapply (run_send A K c e d h 0 hk he (O + debt d h 1 c) e₁) $$ [Hr Hs Hd Hcr HO]
  · isplitr; · iapply (known_ctx A K c); iexact HX
    isplitl [Hr]; · iexact Hr
    isplitr; · iapply (known_met A K d h c); iexact HX
    isplitl [Hs]; · iexact Hs
    isplitl [Hd]; · iexact Hd
    isplitl [Hcr]; · rw [e₂]; iexact Hcr
    iexact HO
  iexact Hk

variable (G : Dev nD → Given F)

theorem run_start (c : Dev nD) (hg : (G c).Tables c) (Q : PUnit → sProp 𝕄) :
    iprop(ctx (parts G) K ∗ inputs (G c) c ∗ (∃ f, held c cc0_scratch0 f) ∗ meeting c
        ∗ (fresh false false c ∗ fresh false true c) ∗ (fresh true false c ∗ fresh true true c) ∗ owesE c (debts c))
      ⊢ iprop((known (parts G) K c ∗ inputsW (G c) c ∗ ring 0 c ∗ atPos ER (bar c) 1 ∅ 0 -∗ Q ⟨⟩)
          -∗ run c (start fun d => dst d c) Q) := by
  unfold meeting fresh debts start
  iintro ⟨#HX, Hin, Hw, ⟨Hat, Hcb, Ht0, Ht1⟩, ⟨⟨Hr00, Hs00, Ha00, Hb00, #Ho00⟩, Hr01, Hs01, Ha01, Hb01, #Ho01⟩,
    ⟨⟨Hr10, Hs10, Ha10, Hb10, #Ho10⟩, Hr11, Hs11, Ha11, Hb11, #Ho11⟩, HO⟩ Hk
  rw [run_bind]
  iapply (run_greet (parts G) K c _ false rfl) $$ [Ht0 Ha00 Ha01 HO]
  · isplitr; · iexact HX
    isplitl [Ht0]; · iexact Ht0
    isplitr; · iexact Ho00
    isplitr; · iexact Ho01
    isplitl [Ha00]; · iexact Ha00
    isplitl [Ha01]; · iexact Ha01
    iexact HO
  iintro HO
  rw [run_bind]
  iapply (run_greet (parts G) K c _ true rfl) $$ [Ht1 Ha10 Ha11 HO]
  · isplitr; · iexact HX
    isplitl [Ht1]; · iexact Ht1
    isplitr; · iexact Ho10
    isplitr; · iexact Ho11
    isplitl [Ha10]; · iexact Ha10
    isplitl [Ha11]; · iexact Ha11
    iexact HO
  iintro HO
  rw [run_bind]
  iapply (run_widen (G c) c) $$ [Hin Hw]
  · isplitl [Hin]; · iexact Hin
    iexact Hw
  iintro Hin
  rw [run_bind]
  iapply (run_chunk (G c) c hg false 0 _) $$ Hin; iintro Hin
  rw [run_bind]
  iapply (run_chunk (G c) c hg true 0 _) $$ Hin; iintro Hin
  rw [run_bind]
  iapply (run_stash c false false) $$ Hs00; iintro Hs00
  rw [run_bind]
  iapply (run_stash c true false) $$ Hs10; iintro Hs10
  rw [run_bind]
  iapply (run_stash c false true) $$ Hs01; iintro Hs01
  rw [run_bind]
  iapply (run_stash c true true) $$ Hs11; iintro Hs11
  rw [run_bind]
  iapply (run_meet (parts G) K c (above_dues (k := 0) (by decide) c)) $$ [Hat Hcb HO]
  · isplitr; · iexact HX
    isplitl [Hat]; · iexact Hat
    isplitl [Hcb]; · iexact Hcb
    iexact HO
  iintro ⟨Hat, ⟨Hp0, Hp1⟩, HO⟩
  ihave Hp0 := (Entails.of_eq (barPay_eq false c)) $$ Hp0
  ihave Hp1 := (Entails.of_eq (barPay_eq true c)) $$ Hp1
  icases Hp0 with ⟨⟨Ha00, #Hm00⟩, Ha01, #Hm01⟩
  icases Hp1 with ⟨⟨Ha10, #Hm10⟩, Ha11, #Hm11⟩
  ihave #HY : known (parts G) K c $$ []
  · unfold known met
    unfold opened
    isplitr; · iexact HX
    isplitr
    · isplitr; · iexact Hm00
      iexact Hm01
    isplitr; · iexact Hm10
    iexact Hm11
  have e₀ : dues 0 c = debt true false 0 c + debt false true 0 c + debt true true 0 c + debt false false 0 c := by
    unfold dues pair; ac_rfl
  have e₁ : debt true false 0 c + debt false true 0 c + debt true true 0 c + debt false false 1 c
      = debt false false 1 c + debt false true 0 c + debt true true 0 c + debt true false 0 c := by ac_rfl
  have e₂ : debt false false 1 c + debt false true 0 c + debt true true 0 c + debt true false 1 c
      = debt false false 1 c + debt true false 1 c + debt true true 0 c + debt false true 0 c := by ac_rfl
  have e₃ : debt false false 1 c + debt true false 1 c + debt true true 0 c + debt false true 1 c
      = debt false false 1 c + debt true false 1 c + debt false true 1 c + debt true true 0 c := by ac_rfl
  have e₄ : debt false false 1 c + debt true false 1 c + debt false true 1 c + debt true true 1 c = pair false 1 c + pair true 1 c := by
    unfold pair; ac_rfl
  rw [e₀, run_bind]
  iapply (run_first (parts G) K c _ false false _ rfl) $$ [Hr00 Hs00 Ha00 Hb10 HO]
  · isplitr; · iexact HY
    isplitl [Hr00]; · iexact Hr00
    isplitl [Hs00]; · iexact Hs00
    isplitl [Ha00]; · iexact Ha00
    isplitl [Hb10]; · iexact Hb10
    iexact HO
  iintro ⟨Hr00, HO⟩
  rw [e₁, run_bind]
  iapply (run_first (parts G) K c _ true false _ rfl) $$ [Hr10 Hs10 Ha10 Hb00 HO]
  · isplitr; · iexact HY
    isplitl [Hr10]; · iexact Hr10
    isplitl [Hs10]; · iexact Hs10
    isplitl [Ha10]; · iexact Ha10
    isplitl [Hb00]; · iexact Hb00
    iexact HO
  iintro ⟨Hr10, HO⟩
  rw [e₂, run_bind]
  iapply (run_first (parts G) K c _ false true _ rfl) $$ [Hr01 Hs01 Ha01 Hb11 HO]
  · isplitr; · iexact HY
    isplitl [Hr01]; · iexact Hr01
    isplitl [Hs01]; · iexact Hs01
    isplitl [Ha01]; · iexact Ha01
    isplitl [Hb11]; · iexact Hb11
    iexact HO
  iintro ⟨Hr01, HO⟩
  rw [e₃]
  iapply (run_first (parts G) K c _ true true _ rfl) $$ [Hr11 Hs11 Ha11 Hb01 HO]
  · isplitr; · iexact HY
    isplitl [Hr11]; · iexact Hr11
    isplitl [Hs11]; · iexact Hs11
    isplitl [Ha11]; · iexact Ha11
    isplitl [Hb01]; · iexact Hb01
    iexact HO
  iintro ⟨Hr11, HO⟩
  rw [e₄]
  iapply Hk
  isplitr; · iexact HY
  isplitl [Hin]; · iexact Hin
  isplitr [Hat]
  · unfold ring air
    rw [kept_emp false 0 (by decide), kept_emp true 0 (by decide)]
    isplitl [Hr00 Hr10]
    · isplitl [Hr00 Hr10]
      · isplitl [Hr00]; · iexact Hr00
        iexact Hr10
      iempintro
    isplitl [Hr01 Hr11]
    · isplitl [Hr01 Hr11]
      · isplitl [Hr01]; · iexact Hr01
        iexact Hr11
      iempintro
    iexact HO
  iexact Hat

/-! ## The end -/

/-- A flow after its last hop. -/
def rested (d h : Bool) (c : Dev nD) : sProp 𝕄 :=
  iprop(ready d h (cnt d) c ∗ sAny d h c ∗ slotAny d h 0 c ∗ slotAny d h 1 c)

/-- The last hop to the right is under way, and the last hop from the right has arrived. -/
def landed (h : Bool) (c : Dev nD) : sProp 𝕄 :=
  iprop(flying false h 15 c ∗ slotAny false h 0 c
    ∗ ready true h 15 c ∗ sAny true h c ∗ slotHas true h 14 c (acc A true h 14 (src true c)) ∗ slotAny true h 1 c)

theorem kept_last (h : Bool) (c : Dev nD) : kept (F := F) h 14 c = slotAny true h 1 c := by
  unfold kept
  rw [if_neg (by decide), slotAny_parity true h (k := 14 + 1) (k' := 1) (by decide)]

theorem run_lastHalf (c : Dev nD) (h : Bool) {O : CellTallies nD τ sig Unit} (hO : Above 16 O) (Q : PUnit → sProp 𝕄) :
    iprop(known A K c ∗ (air h 14 c ∗ kept h 14 c) ∗ owesE c (pair h 15 c + O))
      ⊢ iprop((landed A h c ∗ owesE c O -∗ Q ⟨⟩) -∗ run c (lastHalf (fun d => dst d c) h (A false 15 c)) Q) := by
  have hA : Above 16 (pair h 15 c + O) := (above_pair h (by decide) c).add hO
  have e₁ : pair h 15 c + O = O + tallyAt (rcv false h 15 (dst false c)) () N := by
    unfold pair
    rw [debt_succ false h (show 15 < cnt false by decide) c, show debt false h (15 + 1) c = 0 from debt_end false h c,
      show debt true h 15 c = 0 from debt_end true h c, add_zero, zero_add, add_comm]
  have e₂ : credit (F := F) false h 15 (dst false c) = iprop(emp) := by unfold credit; exact if_neg (by decide)
  unfold air lastHalf
  rw [run_bind, kept_last]
  iintro ⟨#HX, ⟨⟨HR, HL⟩, Hk1⟩, HO⟩ Hk
  iapply (run_take A K c false h 14 _ hA) $$ [HR HO]
  · isplitr; · iapply (known_ctx A K c); iexact HX
    isplitl [HR]; · iexact HR
    iexact HO
  iintro ⟨HR, HsR, HslotR, -, HO⟩
  rw [run_bind]
  iapply (run_waits A K c true h 14 _ hA) $$ [HL HO]
  · isplitr; · iapply (known_ctx A K c); iexact HX
    isplitl [HL]; · iexact HL
    iexact HO
  iintro ⟨HL, HsL, HslotL, HcL, HO⟩
  ihave Hur := (Entails.of_eq (use_right h 14 (by decide) c)) $$ HcL
  iapply (run_send A K c _ false h 15 _ rfl O e₁) $$ [HR HsR Hur HO]
  · isplitr; · iapply (known_ctx A K c); iexact HX
    isplitl [HR]; · iexact HR
    isplitr; · iapply (known_met A K false h c); iexact HX
    isplitl [HsR]; · iexact HsR
    isplitl [Hur]; · iexact Hur
    isplitr; · rw [e₂]; iempintro
    iexact HO
  iintro ⟨HR, HO⟩
  iapply Hk
  isplitr [HO]
  · unfold landed
    rw [slotAny_parity false h (k := 0) (k' := 14) (by decide)]
    isplitl [HR]; · iexact HR
    isplitl [HslotR]; · iexact HslotR
    isplitl [HL]; · iexact HL
    isplitl [HsL]; · iexact HsL
    isplitl [HslotL]; · iexact HslotL
    iexact Hk1
  iexact HO

/-- A half of the result, as a write into the result buffer. -/
def piece (h : Bool) (v : FVec F S128x1024 .f32) : View.Piece (Elt F) S128x2048 .f32 :=
  match h with
  | false => ⟨Rect.unit (s := S128x2048) ![0, 0] S128x1024.size inb_S128x2048_S128x1024_0_0, v⟩
  | true => ⟨Rect.unit (s := S128x2048) ![0, 1024] S128x1024.size inb_S128x2048_S128x1024_0_1024, v⟩

/-- The result buffer after the writes `W`. -/
abbrev stored (c : Dev nD) (f : cc0_stg7_0.ty.Contents (Elt F)) (W : List (View.Piece (Elt F) S128x2048 .f32)) : sProp 𝕄 :=
  held c cc0_stg7_0 ((Memref.whole cc0_stg7_0).view.writes (Elt F) f W)

theorem run_putOut (c : Dev nD) (h : Bool) (v : FVec F S128x1024 .f32) (f : cc0_stg7_0.ty.Contents (Elt F))
    (W : List (View.Piece (Elt F) S128x2048 .f32)) (Q : PUnit → sProp 𝕄) :
    (stored c f W : sProp 𝕄) ⊢ iprop((stored c f (piece h v :: W) -∗ Q ⟨⟩) -∗ run c (putOut h v) Q) := by
  unfold stored putOut run piece
  cases h with
  | false =>
    simp only [Prog.lift, Prog.bind_op, Prog.bind_ret]
    iintro H Hk
    iapply (wp_load 𝒱₀ (c : Thread nD τ) none Set.univ (m := Memref.whole cc0_stg7_0) (Finset.subset_univ _)) $$ H; iintro H
    iapply (wp_store_writes 𝒱₀ (c : Thread nD τ) none Set.univ (m := Memref.whole cc0_stg7_0)
      (r := Rect.unit (s := S128x2048) ![0, 0] S128x1024.size inb_S128x2048_S128x1024_0_0) (w := v) (f := f) (L := W) (Finset.subset_univ _)) $$ H; iintro H
    rw [wp_ret]; imodintro
    iapply Hk; iexact H
  | true =>
    simp only [Prog.lift, Prog.bind_op, Prog.bind_ret]
    iintro H Hk
    iapply (wp_load 𝒱₀ (c : Thread nD τ) none Set.univ (m := Memref.whole cc0_stg7_0) (Finset.subset_univ _)) $$ H; iintro H
    iapply (wp_store_writes 𝒱₀ (c : Thread nD τ) none Set.univ (m := Memref.whole cc0_stg7_0)
      (r := Rect.unit (s := S128x2048) ![0, 1024] S128x1024.size inb_S128x2048_S128x1024_0_1024) (w := v) (f := f) (L := W) (Finset.subset_univ _)) $$ H; iintro H
    rw [wp_ret]; imodintro
    iapply Hk; iexact H

/-- A half of device `c`'s result. -/
def outOf (c : Dev nD) (p : FVec F S128x2048 .f32) (s : F .f32) (h : Bool) : FVec F S128x1024 .f32 :=
  outHalf h p s (lift3 (acc A false h 15 (src false c))) (lift3 (acc A true h 14 (src true c)))

theorem run_finish (c : Dev nD) (h : Bool) (p : FVec F S128x2048 .f32) (s : F .f32) (f : cc0_stg7_0.ty.Contents (Elt F))
    (W : List (View.Piece (Elt F) S128x2048 .f32)) (Q : PUnit → sProp 𝕄) :
    iprop(ctx A K ∗ landed A h c ∗ stored c f W ∗ owesE c 0)
      ⊢ iprop(((rested false h c ∗ rested true h c) ∗ stored c f (piece h (outOf A c p s h) :: W) ∗ owesE c 0 -∗ Q ⟨⟩)
          -∗ run c (finish h p s) Q) := by
  unfold landed finish outOf
  rw [run_bind]
  iintro ⟨#HX, ⟨HR, Hs0, HL, HsL, HslotL, Hk1⟩, Hf, HO⟩ Hk
  iapply (run_waits A K c false h 15 _ (above_zero _)) $$ [HR HO]
  · isplitr; · iexact HX
    isplitl [HR]; · iexact HR
    iexact HO
  iintro ⟨HR, HsR, HslotR, -, HO⟩
  rw [run_bind]
  iapply (run_arrived c false h 15) $$ HslotR; iintro HslotR
  rw [run_bind]
  iapply (run_arrived c true h 14) $$ HslotL; iintro HslotL
  iapply (run_putOut c h) $$ Hf; iintro Hf
  iapply Hk
  isplitr [Hf HO]
  · unfold rested
    rw [slotAny_parity false h (k := 1) (k' := 15) (by decide), slotAny_parity true h (k := 0) (k' := 14) (by decide)]
    isplitl [HR HsR Hs0 HslotR]
    · isplitl [HR]; · iexact HR
      isplitl [HsR]; · iexact HsR
      isplitl [Hs0]; · iexact Hs0
      iapply (slotHas_any false h 15 c); iexact HslotR
    isplitl [HL]; · iexact HL
    isplitl [HsL]; · iexact HsL
    isplitl [HslotL]; · iapply (slotHas_any true h 14 c); iexact HslotL
    iexact Hk1
  isplitl [Hf]; · iexact Hf
  iexact HO

/-- The result of device `c`, put together from its halves. -/
def glue (v : Bool → FVec F S128x1024 .f32) : FVec F S128x2048 .f32 := fun i =>
  if h : (i 1).val < 1024 then v false (ix2 ⟨(i 0).val, (i 0).isLt⟩ ⟨(i 1).val, h⟩)
  else v true (ix2 ⟨(i 0).val, (i 0).isLt⟩ ⟨(i 1).val - 1024, by have := (i 1).isLt; change _ < 2048 at this; omega⟩)

/-- Both halves written, the buffer holds the whole result. -/
theorem stored_glue (f : cc0_stg7_0.ty.Contents (Elt F)) (v : Bool → FVec F S128x1024 .f32) :
    (Memref.whole cc0_stg7_0).view.writes (Elt F) f [piece true (v true), piece false (v false)] = glue v := by
  rw [← View.read_whole (Val := Elt F) cc0_stg7_0 ((Memref.whole cc0_stg7_0).view.writes (Elt F) f [piece true (v true), piece false (v false)])]
  funext i
  unfold piece
  by_cases h : (i 1).val < 1024
  · rw [show glue v i = v false (ix2 ⟨(i 0).val, (i 0).isLt⟩ ⟨(i 1).val, h⟩) from dif_pos h]
    refine (View.read_writes_cons_unit_of_not_mem (Memref.whole cc0_stg7_0).view f inb_S128x2048_S128x1024_0_1024 (v true) _ i rfl 1 (.inl h)).trans ?_
    exact View.read_writes_cons_unit_of_mem (Memref.whole cc0_stg7_0).view f inb_S128x2048_S128x1024_0_0 (v false) _ i
      (ix2 ⟨(i 0).val, (i 0).isLt⟩ ⟨(i 1).val, h⟩) rfl (Fin.forall_fin_two.mpr ⟨(Nat.zero_add _).symm, (Nat.zero_add _).symm⟩)
  · have hl : (i 1).val - 1024 < 1024 := by have := (i 1).isLt; change _ < 2048 at this; omega
    rw [show glue v i = v true (ix2 ⟨(i 0).val, (i 0).isLt⟩ ⟨(i 1).val - 1024, hl⟩) from dif_neg h]
    exact View.read_writes_cons_unit_of_mem (Memref.whole cc0_stg7_0).view f inb_S128x2048_S128x1024_0_1024 (v true) _ i
      (ix2 ⟨(i 0).val, (i 0).isLt⟩ ⟨(i 1).val - 1024, hl⟩) rfl
      (Fin.forall_fin_two.mpr ⟨(Nat.zero_add _).symm, (Nat.add_sub_cancel' (Nat.le_of_not_lt h)).symm⟩)

/-- What device `c` computes. -/
def result (c : Dev nD) : FVec F S128x2048 .f32 := glue (outOf (parts G) c (ownPart (G c) c) (scaleOf (G c)))

/-- The state at the end. -/
def ended (c : Dev nD) : sProp 𝕄 :=
  iprop(inputsW (G c) c ∗ held c cc0_stg7_0 (result G c) ∗ atPos ER (bar c) 1 ∅ 0
    ∗ (rested false false c ∗ rested true false c) ∗ (rested false true c ∗ rested true true c) ∗ owesE c 0)

theorem run_ending (c : Dev nD) (hg : (G c).Tables c) (Q : PUnit → sProp 𝕄) :
    iprop(known (parts G) K c ∗ inputsW (G c) c ∗ ring 14 c ∗ atPos ER (bar c) 1 ∅ 0 ∗ (∃ f, held c cc0_stg7_0 f))
      ⊢ iprop((ended G c -∗ Q ⟨⟩) -∗ run c (ending fun d => dst d c) Q) := by
  have hz : Above 16 (pair true 15 c) := above_pair true (by decide) c
  unfold ring ending ended result
  rw [run_bind]
  iintro ⟨#HX, Hin, ⟨H0, H1, HO⟩, Hat, %f, Hf⟩ Hk
  iapply (run_chunk (G c) c hg false 15 _) $$ Hin; iintro Hin
  rw [run_bind]
  iapply (run_lastHalf (parts G) K c false hz) $$ [H0 HO]
  · isplitr; · iexact HX
    isplitl [H0]; · iexact H0
    iexact HO
  iintro ⟨H0, HO⟩
  rw [run_bind, ← add_zero (pair true 15 c)]
  iapply (run_lastHalf (parts G) K c true (above_zero _)) $$ [H1 HO]
  · isplitr; · iexact HX
    isplitl [H1]; · iexact H1
    iexact HO
  iintro ⟨H1, HO⟩
  rw [run_bind]
  iapply (run_own (G c) c) $$ Hin; iintro Hin
  rw [run_bind]
  iapply (run_scale (G c) c) $$ Hin; iintro Hin
  rw [run_bind]
  iapply (run_finish (parts G) K c false _ _ f []) $$ [H0 Hf HO]
  · isplitr; · iapply (known_ctx (parts G) K c); iexact HX
    isplitl [H0]; · iexact H0
    isplitl [Hf]; · iexact Hf
    iexact HO
  iintro ⟨H0, Hf, HO⟩
  iapply (run_finish (parts G) K c true _ _ f _) $$ [H1 Hf HO]
  · isplitr; · iapply (known_ctx (parts G) K c); iexact HX
    isplitl [H1]; · iexact H1
    isplitl [Hf]; · iexact Hf
    iexact HO
  iintro ⟨H1, Hf, HO⟩
  iapply Hk
  isplitl [Hin]; · iexact Hin
  isplitl [Hf]
  · rw [← stored_glue f (outOf (parts G) c (ownPart (G c) c) (scaleOf (G c)))]; iexact Hf
  isplitl [Hat]; · iexact Hat
  isplitl [H0]; · iexact H0
  isplitl [H1]; · iexact H1
  iexact HO

/-! ## The run -/

/-- The state at the start. -/
def begun (c : Dev nD) : sProp 𝕄 :=
  iprop(inputs (G c) c ∗ (∃ f, held c cc0_scratch0 f) ∗ (∃ f, held c cc0_stg7_0 f) ∗ meeting c
    ∗ (fresh false false c ∗ fresh false true c) ∗ (fresh true false c ∗ fresh true true c) ∗ owesE c (debts c))

theorem run_prog (c : Dev nD) (hg : (G c).Tables c) (Q : PUnit → sProp 𝕄) :
    iprop(ctx (parts G) K ∗ begun G c) ⊢ iprop((ended G c -∗ Q ⟨⟩) -∗ run c prog Q) := by
  unfold prog begun
  rw [run_bind]
  iintro ⟨#HX, Hin, Hw, Hf, Hb, H0, H1, HO⟩ Hk
  iapply (run_neighbours (G c) c hg) $$ Hin; iintro Hin
  rw [run_bind]
  iapply (run_start K G c hg) $$ [Hin Hw Hb H0 H1 HO]
  · isplitr; · iexact HX
    isplitl [Hin]; · iexact Hin
    isplitl [Hw]; · iexact Hw
    isplitl [Hb]; · iexact Hb
    isplitl [H0]; · iexact H0
    isplitl [H1]; · iexact H1
    iexact HO
  iintro ⟨#HY, Hin, Hr, Hat⟩
  rw [run_bind]
  iapply (run_steps K G c hg 14 0 _) $$ [Hin Hr]
  · isplitr; · iexact HY
    isplitl [Hin]; · iexact Hin
    iexact Hr
  iintro ⟨Hin, Hr⟩
  iapply (run_ending K G c hg) $$ [Hin Hr Hat Hf]
  · isplitr; · iexact HY
    isplitl [Hin]; · iexact Hin
    isplitl [Hr]; · iexact Hr
    isplitl [Hat]; · iexact Hat
    iexact Hf
  iexact Hk

end Cert.KernelIdeal.Ring
-- ==== Proof.Ends.lean ====
/-
The two ends of a device's run: its buffers and semaphores before the first hop and after the last.
-/
module

public import proofs.«01_k».proof.Proof.Body
public import proofs.«01_k».proof.Proof.Gen.KernelIdeal.Launch
public import Idealize.ShloMosaic.Lib.Rounds.Family

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Bool → ℕ → Dev nD → FVec F S128x2048 .bf16) (K : GSem nD τ sig → ℕ)

/-! ## The buffers of a flow -/

theorem slots_set (d h : Bool) (k : ℕ) : (slot d h k).view.set = (slotRect k).set.map (rbuf d h).view.emb :=
  (View.set_reshape _ _).trans (View.set_slice _ _)

theorem mem_slot (k : ℕ) (i : S2x128x1024.Idx) : i ∈ (slotRect k).set ↔ (i 0).val = k % 2 := by
  refine Rect.mem_set_unit.trans ⟨fun h => ?_, fun h a => ?_⟩
  · have h0 := h 0
    change k % 2 ≤ (i 0).val ∧ (i 0).val < k % 2 + 1 at h0
    omega
  · have ha := (i a).isLt
    revert ha
    match a with
    | 0 => intro _; show k % 2 ≤ (i 0).val ∧ (i 0).val < k % 2 + 1; omega
    | 1 => intro ha; exact ⟨Nat.zero_le _, lt_of_lt_of_le ha (Nat.le_add_left _ _)⟩
    | 2 => intro ha; exact ⟨Nat.zero_le _, lt_of_lt_of_le ha (Nat.le_add_left _ _)⟩

theorem slots_disjoint (d h : Bool) : Disjoint (slot d h 0).view.set (slot d h 1).view.set := by
  rw [slots_set, slots_set, Finset.disjoint_map, Finset.disjoint_left]
  intro i h0 h1
  rw [mem_slot] at h0 h1
  omega

theorem slots_union (d h : Bool) : (slot d h 0).view.set ∪ (slot d h 1).view.set = (rbuf d h).view.set := by
  rw [slots_set, slots_set, ← Finset.map_union]
  refine congrArg (Finset.map _) (Finset.eq_univ_iff_forall.mpr fun i => ?_)
  have hi := (i 0).isLt
  change (i 0).val < 2 at hi
  rw [Finset.mem_union, mem_slot, mem_slot]
  omega

/-- A receive buffer is its two parts. -/
theorem slots_split (d h : Bool) (c : Dev nD) :
    iprop(∃ f, (rbuf d h).view.loc (c : Thread nD τ) ↦[(rbuf d h).view.set]{fullShare} f) ⊢ (iprop(slotAny d h 0 c ∗ slotAny d h 1 c) : sProp 𝕄) := by
  rw [← slots_union]
  unfold slotAny
  iintro ⟨%f, H⟩
  ihave H := (pointsTo_union (slots_disjoint d h)).1 $$ H
  icases H with ⟨H0, H1⟩
  isplitl [H0]
  · iexists f; iexact H0
  iexists f; iexact H1

theorem slots_join (d h : Bool) (c : Dev nD) :
    (iprop(slotAny d h 0 c ∗ slotAny d h 1 c) : sProp 𝕄) ⊢ iprop(∃ f, (rbuf d h).view.loc (c : Thread nD τ) ↦[(rbuf d h).view.set]{fullShare} f) := by
  rw [← slots_union]
  unfold slotAny
  iintro ⟨⟨%f, H0⟩, %g, H1⟩
  iexists _
  iapply (pointsTo_join (slots_disjoint d h))
  isplitl [H0]; · iexact H0
  iexact H1

/-- The three buffers of a flow. -/
def room (d h : Bool) (c : Dev nD) : sProp 𝕄 := iprop(sAny d h c ∗ slotAny d h 0 c ∗ slotAny d h 1 c)

/-- The buffers of a flow, whole. -/
def space (d h : Bool) (c : Dev nD) : sProp 𝕄 :=
  iprop((∃ f, (sbuf d h).view.loc (c : Thread nD τ) ↦[(sbuf d h).view.set]{fullShare} f)
    ∗ ∃ f, (rbuf d h).view.loc (c : Thread nD τ) ↦[(rbuf d h).view.set]{fullShare} f)

theorem space_room (d h : Bool) (c : Dev nD) : space (F := F) d h c ⊢ room d h c := by
  unfold space room sAny
  iintro ⟨Hs, Hr⟩
  isplitl [Hs]; · iexact Hs
  iapply (slots_split d h c); iexact Hr

theorem room_space (d h : Bool) (c : Dev nD) : room (F := F) d h c ⊢ space d h c := by
  unfold space room sAny
  iintro ⟨Hs, Hr⟩
  isplitl [Hs]; · iexact Hs
  iapply (slots_join d h c); iexact Hr

/-- The buffers of all flows are the scratch buffers of the kernel after the first. -/
theorem scratch_eq (c : Dev nD) :
    (Pipeline.scopedRest spec0 c : sProp 𝕄)
      = iprop((∃ f, held c cc0_scratch0 f)
          ∗ (∃ f, held c cc0_scratch1 f) ∗ (∃ f, held c cc0_scratch2 f) ∗ (∃ f, held c cc0_scratch3 f) ∗ (∃ f, held c cc0_scratch4 f)
          ∗ (∃ f, held c cc0_scratch5 f) ∗ (∃ f, held c cc0_scratch6 f) ∗ (∃ f, held c cc0_scratch7 f) ∗ ∃ f, held c cc0_scratch8 f) :=
  scopedRest0_eq c

theorem space_eq (d h : Bool) (c : Dev nD) :
    space (F := F) d h c = match d, h with
      | false, false => iprop((∃ f, held c cc0_scratch1 f) ∗ ∃ f, held c cc0_scratch5 f)
      | false, true => iprop((∃ f, held c cc0_scratch2 f) ∗ ∃ f, held c cc0_scratch6 f)
      | true, false => iprop((∃ f, held c cc0_scratch3 f) ∗ ∃ f, held c cc0_scratch7 f)
      | true, true => iprop((∃ f, held c cc0_scratch4 f) ∗ ∃ f, held c cc0_scratch8 f) := by
  unfold space
  rw [show (sbuf d h).view.set = Finset.univ by cases d <;> cases h <;> exact View.set_whole _,
    show (rbuf d h).view.set = Finset.univ by cases d <;> cases h <;> exact View.set_whole _]
  cases d <;> cases h <;> rfl

/-- Four things of one kind, one to a flow. -/
def four (Ψ : Bool → Bool → sProp 𝕄) : sProp 𝕄 := iprop((Ψ false false ∗ Ψ false true) ∗ Ψ true false ∗ Ψ true true)

theorem four_eq (Ψ : Bool → Bool → sProp 𝕄) : four Ψ = bigSep Finset.univ fun d => bigSep Finset.univ fun h => Ψ d h := by
  rw [bigSep_bool, bigSep_bool, bigSep_bool]; rfl

theorem four_mono {Ψ Ψ' : Bool → Bool → sProp 𝕄} (h : ∀ d b, Ψ d b ⊢ Ψ' d b) : four Ψ ⊢ four Ψ' := by
  rw [four_eq, four_eq]; exact bigSep_mono fun d _ => bigSep_mono fun b _ => h d b

theorem four_sep (Ψ Ψ' : Bool → Bool → sProp 𝕄) : four (fun d h => iprop(Ψ d h ∗ Ψ' d h)) ⊢ iprop(four Ψ ∗ four Ψ') := by
  unfold four
  iintro ⟨⟨⟨a, a'⟩, b, b'⟩, ⟨e, e'⟩, g, g'⟩
  isplitl [a b e g]
  · isplitl [a b]
    · isplitl [a]; · iexact a
      iexact b
    isplitl [e]; · iexact e
    iexact g
  isplitl [a' b']
  · isplitl [a']; · iexact a'
    iexact b'
  isplitl [e']; · iexact e'
  iexact g'

theorem four_join (Ψ Ψ' : Bool → Bool → sProp 𝕄) : iprop(four Ψ ∗ four Ψ') ⊢ four (fun d h => iprop(Ψ d h ∗ Ψ' d h)) := by
  unfold four
  iintro ⟨⟨⟨a, b⟩, e, g⟩, ⟨a', b'⟩, e', g'⟩
  isplitl [a b a' b']
  · isplitl [a a']
    · isplitl [a]; · iexact a
      iexact a'
    isplitl [b]; · iexact b
    iexact b'
  isplitl [e e']
  · isplitl [e]; · iexact e
    iexact e'
  isplitl [g]; · iexact g
  iexact g'

theorem scratch_open (c : Dev nD) :
    (Pipeline.scopedRest spec0 c : sProp 𝕄) ⊢ iprop((∃ f, held c cc0_scratch0 f) ∗ four fun d h => room d h c) := by
  refine BIBase.Entails.trans ?_ (sep_mono .rfl (four_mono fun d h => space_room d h c))
  rw [scratch_eq]
  unfold four
  dsimp only
  rw [space_eq, space_eq, space_eq, space_eq]
  iintro ⟨a0, a1, a2, a3, a4, a5, a6, a7, a8⟩
  isplitl [a0]; · iexact a0
  isplitl [a1 a2 a5 a6]
  · isplitl [a1 a5]
    · isplitl [a1]; · iexact a1
      iexact a5
    isplitl [a2]; · iexact a2
    iexact a6
  isplitl [a3 a7]
  · isplitl [a3]; · iexact a3
    iexact a7
  isplitl [a4]; · iexact a4
  iexact a8

theorem scratch_close (c : Dev nD) :
    iprop((∃ f, held c cc0_scratch0 f) ∗ four fun d h => room d h c) ⊢ (Pipeline.scopedRest spec0 c : sProp 𝕄) := by
  refine (sep_mono .rfl (four_mono fun d h => room_space d h c)).trans ?_
  rw [scratch_eq]
  unfold four
  dsimp only
  rw [space_eq, space_eq, space_eq, space_eq]
  iintro ⟨a0, ⟨⟨a1, a5⟩, a2, a6⟩, ⟨a3, a7⟩, a4, a8⟩
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  iexact a8

/-! ## The cells of a flow -/

/-- What a device is dealt for a flow before the kernel starts. -/
def dealt (d h : Bool) (c : Dev nD) : sProp 𝕄 :=
  iprop(toks d h 0 c ∗ bigSep (Finset.range (cnt d)) fun t => cred (tallyAt (rcv d h t c) () N))

/-- A flow about to start, its buffers apart. -/
def set (d h : Bool) (c : Dev nD) : sProp 𝕄 := iprop(ready d h 0 c ∗ opened d h c)

/-- The cells of a flow, just opened. -/
def cellsAt (d h : Bool) (c : Dev nD) : sProp 𝕄 :=
  iprop((atPos ER (snd d h c) 0 ∅ 0 ∗ reached ER (snd d h c) 0)
    ∗ bigSep (Finset.range (cnt d)) fun t => iprop(atPos ER (rcv d h t c) 0 ∅ 0 ∗ reached ER (rcv d h t c) 0))

theorem set_of (d h : Bool) (c : Dev nD) : iprop(dealt (F := F) d h c ∗ cellsAt d h c) ⊢ set d h c := by
  unfold dealt cellsAt set ready wants opened
  rw [Nat.Ico_zero_eq_range, Finset.range_zero, bigSep_empty, bigSep_sep', bigSep_sep']
  iintro ⟨⟨Ht, Hc⟩, ⟨Hat, #Hr⟩, Hats, #Hrs⟩
  isplitl [Ht Hc Hat Hats]
  · isplitl [Hat]; · iexact Hat
    isplitr; · iexact Hr
    isplitl [Ht]; · iexact Ht
    isplitl [Hats Hc]
    · isplitl [Hats]; · iexact Hats
      iexact Hc
    iempintro
  iexact Hrs

/-- All own cells at zero. -/
theorem own_zero (c : Dev nD) : (Pipeline.ownSems0 osem c : sProp 𝕄)
    = four fun d h => iprop(semVal (snd d h c) 0 ∗ bigSep (Finset.range (cnt d)) fun t => semVal (rcv d h t c) 0) := by
  rw [four_eq]
  exact own_flows fun sm => semVal ((c : Thread nD τ), sm) 0

/-- The cells of all flows, opened. -/
theorem own_open (c : Dev nD) :
    iprop(ctx A K ∗ (bigSep Finset.univ fun k : Own => openTok ER ((c : Thread nD τ), osem k)) ∗ Pipeline.ownSems0 osem c)
      ⊢ |={Set.univ}=> (four fun d h => cellsAt d h c : sProp 𝕄) := by
  rw [four_eq]
  unfold cellsAt
  rw [← own_flows fun sm => iprop(atPos ER ((c : Thread nD τ), sm) 0 ∅ 0 ∗ reached ER ((c : Thread nD τ), sm) 0)]
  refine BIBase.Entails.trans ?_ (Rounds.cells_open ER (Rd A) Finset.univ (fun k => ((c : Thread nD τ), osem k)) (fun k => K ((c : Thread nD τ), osem k))
    (fun _ _ => Set.mem_univ _))
  unfold Pipeline.ownSems0
  iintro ⟨#HX, Ho, Hz⟩
  isplitl [Ho]
  · iapply (bigSep_with_persistent (R := ctx A K) (Φ := fun k : Own => openTok ER ((c : Thread nD τ), osem k))
      (fun k _ => sep_mono (ctx_inv A K (Finset.mem_union_right _ (own_mem c k))) .rfl)) $$ [Ho]
    isplitr; · iexact HX
    iexact Ho
  iexact Hz

/-- The cells of a flow after its last hop are at zero. -/
theorem flow_close (d h : Bool) (c : Dev nD) :
    iprop(ctx A K ∗ ready d h (cnt d) c)
      ⊢ |={Set.univ}=> (iprop(semVal (snd d h c) 0 ∗ bigSep (Finset.range (cnt d)) fun t => semVal (rcv d h t c) 0) : sProp 𝕄) := by
  unfold ready wants
  iintro ⟨#HX, Hat, -, -, -, Hats⟩
  imod (Rounds.cell_close ER (Rd A) (Set.mem_univ (K (snd d h c))) (fun h => h) (R := cnt d) (duties_snd_later A d h c)) $$ [Hat] with Hz
  · isplitr; · iapply (ctx_snd A K d h c); iexact HX
    iexact Hat
  imod (Rounds.cells_close ER (Rd A) (Finset.range (cnt d)) (fun t => rcv d h t c) (fun t => K (rcv d h t c)) (fun _ _ => Set.mem_univ _)
    (fun _ _ h => h) (fun _ => 1) (fun t ht => duties_rcv_later A d h c (Finset.mem_range.mp ht))) $$ [Hats] with Hzs
  · iapply (bigSep_with_persistent (R := ctx A K) (Φ := fun t => atPos ER (rcv d h t c) 1 ∅ 0)
      (fun t ht => sep_mono (ctx_rcv A K d h (Finset.mem_range.mp ht) c) .rfl)) $$ [Hats]
    isplitr; · iexact HX
    iexact Hats
  imodintro
  isplitl [Hz]; · iexact Hz
  iexact Hzs

/-- All own cells are at zero after the last hop. -/
theorem own_close (c : Dev nD) :
    iprop(ctx A K ∗ four fun d h => ready d h (cnt d) c) ⊢ |={Set.univ}=> (Pipeline.ownSems0 osem c : sProp 𝕄) := by
  rw [own_zero]
  unfold four
  iintro ⟨#HX, ⟨a, b⟩, e, g⟩
  imod (flow_close A K false false c) $$ [a] with a
  · isplitr; · iexact HX
    iexact a
  imod (flow_close A K false true c) $$ [b] with b
  · isplitr; · iexact HX
    iexact b
  imod (flow_close A K true false c) $$ [e] with e
  · isplitr; · iexact HX
    iexact e
  imod (flow_close A K true true c) $$ [g] with g
  · isplitr; · iexact HX
    iexact g
  imodintro
  isplitl [a b]
  · isplitl [a]; · iexact a
    iexact b
  isplitl [e]; · iexact e
  iexact g

/-- The barrier is at zero after its round. -/
theorem bar_close (c : Dev nD) : iprop(ctx A K ∗ atPos ER (bar c) 1 ∅ 0) ⊢ |={Set.univ}=> (semVal (bar c) 0 : sProp 𝕄) := by
  iintro ⟨#HX, Hat⟩
  imod (Rounds.cell_close ER (Rd A) (Set.mem_univ (K (bar c))) (fun h => h) (R := 1) (duties_bar_later A c)) $$ [Hat] with Hz
  · isplitr; · iapply (ctx_bar A K c); iexact HX
    iexact Hat
  imodintro; iexact Hz

end Cert.KernelIdeal.Ring
-- ==== Proof.Region.lean ====
/-
The kernel's one call as a step of the whole program: what a device is given, what the call leaves, and the
proof that its body keeps to it.
-/
module

public import proofs.«01_k».proof.Proof.Ends
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.FrameBody

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F]

local notation "𝕄" => MT nD τ sig Unit (Elt F) ℕ UU ℕ

variable (V : Dev nD → Valuation τ sig (Elt F))

/-! ## What a device is given -/

/-- The contents of the call's operands on device `c`. -/
def given (c : Dev nD) : Given F where
  x := V c main_arg0
  w := V c main_arg1
  sx := V c main_arg2
  sw := V c main_arg3
  near := V c main_v26
  goR := V c main_v38
  goL := V c main_v50

/-- The call works on whole arrays: the block of a window is its array. -/
theorem block0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem block1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem block2 (f : main_arg2.ty.Contents (Elt F)) : (win0_2.blk (0 : Fin 1)).view.read (Elt F) f = f :=
  Memref.read_access_unit_zero (Elt F) main_arg2 (funext fun a => by fin_cases a <;> decide) (fun a => by fin_cases a <;> decide) f
theorem block3 (f : main_arg3.ty.Contents (Elt F)) : (win0_3.blk (0 : Fin 1)).view.read (Elt F) f = f :=
  Memref.read_access_unit_zero (Elt F) main_arg3 (funext fun a => by fin_cases a <;> decide) (fun a => by fin_cases a <;> decide) f
theorem block4 (f : main_v26.ty.Contents (Elt F)) : (win0_4.blk (0 : Fin 1)).view.read (Elt F) f = f :=
  Memref.read_access_unit_zero (Elt F) main_v26 (funext fun a => by fin_cases a <;> decide) (fun a => by fin_cases a <;> decide) f
theorem block5 (f : main_v38.ty.Contents (Elt F)) : (win0_5.blk (0 : Fin 1)).view.read (Elt F) f = f :=
  Memref.read_access_unit_zero (Elt F) main_v38 (funext fun a => by fin_cases a <;> decide) (fun a => by fin_cases a <;> decide) f
theorem block6 (f : main_v50.ty.Contents (Elt F)) : (win0_6.blk (0 : Fin 1)).view.read (Elt F) f = f :=
  Memref.read_access_unit_zero (Elt F) main_v50 (funext fun a => by fin_cases a <;> decide) (fun a => by fin_cases a <;> decide) f
theorem block7 (f : main_v51.ty.Contents (Elt F)) : (win0_7.blk (0 : Fin 1)).view.read (Elt F) f = f :=
  Memref.read_access_unit_zero (Elt F) main_v51 (funext fun a => by fin_cases a <;> decide) (fun a => by fin_cases a <;> decide) f

/-! ## The state around the call -/

/-- What a device holds of the flows before the call. -/
def Tk (c : Dev nD) : sProp 𝕄 :=
  iprop(∃ K, ctx (parts (given V)) K ∗ meeting c ∗ (four fun d h => dealt d h c) ∗ bigSep Finset.univ fun k : Own => openTok ER ((c : Thread nD τ), osem k))

/-- The same once its own semaphores are in. -/
def Xk (c : Dev nD) : sProp 𝕄 := iprop(∃ K, ctx (parts (given V)) K ∗ meeting c ∗ four fun d h => set d h c)

/-- What is left after the call. -/
def Yk (c : Dev nD) : sProp 𝕄 := semVal (bar c) 0

theorem hopen (c : Dev nD) : iprop(Tk V c ∗ Pipeline.ownSems0 osem c ∗ levAts L lv) ⊢ |={Set.univ}=> Xk V c := by
  unfold Tk Xk
  iintro ⟨⟨%K, #HX, Hm, Hd, Ho⟩, Hz, -⟩
  imod (own_open (parts (given V)) K c) $$ [Ho Hz] with Hc
  · isplitr; · iexact HX
    isplitl [Ho]; · iexact Ho
    iexact Hz
  imodintro
  iexists K
  isplitr; · iexact HX
  isplitl [Hm]; · iexact Hm
  iapply (four_mono fun d h => set_of d h c)
  iapply (four_join (fun d h => dealt d h c) (fun d h => cellsAt d h c))
  isplitl [Hd]; · iexact Hd
  iexact Hc

def Φ₀ (c : Dev nD) : sProp 𝕄 := iprop(Pipeline.scopedRest spec0 c ∗ (∃ r, prngReg c r) ∗ Xk V c)
def Φ₁ (c : Dev nD) : sProp 𝕄 := iprop(Pipeline.scopedRest spec0 c ∗ (∃ r, prngReg c r) ∗ Pipeline.ownSems0 osem c ∗ Yk c)

/-- The call's data on device `c`. -/
def dats (_ : Fin 1) (c : Dev nD) : Dat τ (Elt F) Unit ℕ UU ℕ cfg0 c where
  A w := V c (Proc.devRef .tc (Pipeline.arrRef spec0 w))
  after w _ := match w with
    | ⟨0, _⟩ => (given V c).x
    | ⟨1, _⟩ => (given V c).w
    | ⟨2, _⟩ => (given V c).sx
    | ⟨3, _⟩ => (given V c).sw
    | ⟨4, _⟩ => (given V c).near
    | ⟨5, _⟩ => (given V c).goR
    | ⟨6, _⟩ => (given V c).goL
    | ⟨7, _⟩ => result (given V) c
  Φ t := match t with
    | ⟨0, _⟩ => Φ₀ V c
    | ⟨_ + 1, _⟩ => Φ₁ c
  q _ := fullShare
  owed t := match t with
    | ⟨0, _⟩ => debts c
    | ⟨_ + 1, _⟩ => 0

/-! ## The body -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ V c ∗ (dats V 0 c).owesAt () t₀.castSucc
    ∗ (∃ d, stg c cc0_stg0_0 ((dats V 0 c).before (0 : Fin 8) t₀ d)) ∗ (∃ d, stg c cc0_stg1_0 ((dats V 0 c).before (1 : Fin 8) t₀ d))
    ∗ (∃ d, stg c cc0_stg2_0 ((dats V 0 c).before (2 : Fin 8) t₀ d)) ∗ (∃ d, stg c cc0_stg3_0 ((dats V 0 c).before (3 : Fin 8) t₀ d))
    ∗ (∃ d, stg c cc0_stg4_0 ((dats V 0 c).before (4 : Fin 8) t₀ d)) ∗ (∃ d, stg c cc0_stg5_0 ((dats V 0 c).before (5 : Fin 8) t₀ d))
    ∗ (∃ d, stg c cc0_stg6_0 ((dats V 0 c).before (6 : Fin 8) t₀ d)) ∗ (∃ d, stg c cc0_stg7_0 ((dats V 0 c).before (7 : Fin 8) t₀ d)))

def bodyPost (c : Dev nD) : sProp 𝕄 :=
  iprop(Φ₁ c ∗ (dats V 0 c).owesAt () t₀.succ
    ∗ stg c cc0_stg0_0 (given V c).x ∗ stg c cc0_stg1_0 (given V c).w ∗ stg c cc0_stg2_0 (given V c).sx ∗ stg c cc0_stg3_0 (given V c).sw
    ∗ stg c cc0_stg4_0 (given V c).near ∗ stg c cc0_stg5_0 (given V c).goR ∗ stg c cc0_stg6_0 (given V c).goL
    ∗ stg c cc0_stg7_0 (result (given V) c))

/-- An operand is staged before the body. -/
theorem staged (c : Dev nD) (w : Fin 8) (hw : (cfg0.win w).fetch t₀ = true) (d : (cfg0.win w).block.Idx → Elt F (cfg0.win w).elt) :
    (dats V 0 c).before w t₀ d = (dats V 0 c).fetched w t₀ d := by
  unfold Dat.before; rw [if_pos hw]

theorem staged0 (c : Dev nD) (d : (cfg0.win (0 : Fin 8)).block.Idx → Elt F (cfg0.win (0 : Fin 8)).elt) :
    (dats V 0 c).before (0 : Fin 8) t₀ d = (given V c).x :=
  (staged V c (0 : Fin 8) rfl d).trans ((show _ = (win0_0.blk (0 : Fin 1)).view.read (Elt F) (V c main_arg0) from rfl).trans (block0 _))
theorem staged1 (c : Dev nD) (d : (cfg0.win (1 : Fin 8)).block.Idx → Elt F (cfg0.win (1 : Fin 8)).elt) :
    (dats V 0 c).before (1 : Fin 8) t₀ d = (given V c).w :=
  (staged V c (1 : Fin 8) rfl d).trans ((show _ = (win0_1.blk (0 : Fin 1)).view.read (Elt F) (V c main_arg1) from rfl).trans (block1 _))
theorem staged2 (c : Dev nD) (d : (cfg0.win (2 : Fin 8)).block.Idx → Elt F (cfg0.win (2 : Fin 8)).elt) :
    (dats V 0 c).before (2 : Fin 8) t₀ d = (given V c).sx :=
  (staged V c (2 : Fin 8) rfl d).trans ((show _ = (win0_2.blk (0 : Fin 1)).view.read (Elt F) (V c main_arg2) from rfl).trans (block2 _))
theorem staged3 (c : Dev nD) (d : (cfg0.win (3 : Fin 8)).block.Idx → Elt F (cfg0.win (3 : Fin 8)).elt) :
    (dats V 0 c).before (3 : Fin 8) t₀ d = (given V c).sw :=
  (staged V c (3 : Fin 8) rfl d).trans ((show _ = (win0_3.blk (0 : Fin 1)).view.read (Elt F) (V c main_arg3) from rfl).trans (block3 _))
theorem staged4 (c : Dev nD) (d : (cfg0.win (4 : Fin 8)).block.Idx → Elt F (cfg0.win (4 : Fin 8)).elt) :
    (dats V 0 c).before (4 : Fin 8) t₀ d = (given V c).near :=
  (staged V c (4 : Fin 8) rfl d).trans ((show _ = (win0_4.blk (0 : Fin 1)).view.read (Elt F) (V c main_v26) from rfl).trans (block4 _))
theorem staged5 (c : Dev nD) (d : (cfg0.win (5 : Fin 8)).block.Idx → Elt F (cfg0.win (5 : Fin 8)).elt) :
    (dats V 0 c).before (5 : Fin 8) t₀ d = (given V c).goR :=
  (staged V c (5 : Fin 8) rfl d).trans ((show _ = (win0_5.blk (0 : Fin 1)).view.read (Elt F) (V c main_v38) from rfl).trans (block5 _))
theorem staged6 (c : Dev nD) (d : (cfg0.win (6 : Fin 8)).block.Idx → Elt F (cfg0.win (6 : Fin 8)).elt) :
    (dats V 0 c).before (6 : Fin 8) t₀ d = (given V c).goL :=
  (staged V c (6 : Fin 8) rfl d).trans ((show _ = (win0_6.blk (0 : Fin 1)).view.read (Elt F) (V c main_v50) from rfl).trans (block6 _))

theorem stg_intro (c : Dev nD) (b : Ref sig .tc) (X : b.ty.Contents (Elt F)) : held c b X ⊢ (stg c b X : sProp 𝕄) := by
  iintro H; iexists X; isplitr; · ipureintro; rfl
  iexact H

theorem stg_elim (c : Dev nD) (b : Ref sig .tc) {X Y : b.ty.Contents (Elt F)} (h : X = Y) : (stg c b X : sProp 𝕄) ⊢ held c b Y := by
  subst h; iintro ⟨%f, %hf, H⟩; subst hf; iexact H

theorem body_begun (c : Dev nD) : bodyPre V c ⊢ iprop(∃ K, (ctx (parts (given V)) K ∗ begun (given V) c) ∗ ∃ r, prngReg c r) := by
  unfold bodyPre Φ₀ Xk begun inputs Dat.owesAt Pipeline.owesWithin owesE
  iintro ⟨⟨Hs, Hp, %K, #HX, Hm, Hf⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, %f7, -, H7⟩⟩
  ihave Hs := (scratch_open (F := F) c) $$ Hs
  icases Hs with ⟨Hw, Hr⟩
  ihave Hfl := (four_join (fun d h => set d h c) (fun d h => room d h c)) $$ [Hf Hr]
  · isplitl [Hf]; · iexact Hf
    iexact Hr
  ihave Hfl := (four_mono (Ψ' := fun d h => fresh d h c) fun d h => by
    unfold set room fresh
    iintro ⟨⟨a, #b⟩, e, g, i⟩
    isplitl [a]; · iexact a
    isplitl [e]; · iexact e
    isplitl [g]; · iexact g
    isplitl [i]; · iexact i
    iexact b) $$ Hfl
  unfold four
  icases Hfl with ⟨Hfl, Hfr⟩
  iexists K
  isplitr [Hp]
  · isplitr; · iexact HX
    isplitl [H0 H1 H2 H3 H4 H5 H6]
    · isplitl [H0]; · iapply (stg_elim c cc0_stg0_0 (staged0 V c d0)); iexact H0
      isplitl [H1]; · iapply (stg_elim c cc0_stg1_0 (staged1 V c d1)); iexact H1
      isplitl [H2]; · iapply (stg_elim c cc0_stg2_0 (staged2 V c d2)); iexact H2
      isplitl [H3]; · iapply (stg_elim c cc0_stg3_0 (staged3 V c d3)); iexact H3
      isplitl [H4]; · iapply (stg_elim c cc0_stg4_0 (staged4 V c d4)); iexact H4
      isplitl [H5]; · iapply (stg_elim c cc0_stg5_0 (staged5 V c d5)); iexact H5
      iapply (stg_elim c cc0_stg6_0 (staged6 V c d6)); iexact H6
    isplitl [Hw]; · iexact Hw
    isplitl [H7]; · iexists f7; iexact H7
    isplitl [Hm]; · iexact Hm
    isplitl [Hfl]; · iexact Hfl
    isplitl [Hfr]; · iexact Hfr
    iexists W; iexact HO
  iexact Hp

theorem body_ended (K : GSem nD τ sig → ℕ) (c : Dev nD) :
    iprop(ctx (parts (given V)) K ∗ ended (given V) c ∗ ∃ r, prngReg c r) ⊢ |={Set.univ}=> bodyPost V c := by
  unfold bodyPost Φ₁ Yk ended inputsW inputs Dat.owesAt Pipeline.owesWithin owesE rested
  iintro ⟨#HX, ⟨⟨⟨H0, H1, H2, H3, H4, H5, H6⟩, Hw⟩, H7, Hat, ⟨⟨a, a'⟩, e, e'⟩, ⟨⟨b, b'⟩, g, g'⟩, %W, HO⟩, Hp⟩
  imod (bar_close (parts (given V)) K c) $$ [Hat] with Hb
  · isplitr; · iexact HX
    iexact Hat
  imod (own_close (parts (given V)) K c) $$ [a b e g] with Hz
  · isplitr; · iexact HX
    unfold four
    isplitl [a b]
    · isplitl [a]; · iexact a
      iexact b
    isplitl [e]; · iexact e
    iexact g
  imodintro
  isplitl [Hw a' b' e' g' Hp Hz Hb]
  · isplitl [Hw a' b' e' g']
    · iapply (scratch_close (F := F) c)
      isplitl [Hw]; · iexists _; iexact Hw
      unfold four room
      isplitl [a' b']
      · isplitl [a']; · iexact a'
        iexact b'
      isplitl [e']; · iexact e'
      iexact g'
    isplitl [Hp]; · iexact Hp
    isplitl [Hz]; · iexact Hz
    iexact Hb
  isplitl [HO]
  · iexists W; isplitr; · ipureintro; exact fun _ _ => Or.inl trivial
    iexact HO
  isplitl [H0]; · iapply stg_intro; iexact H0
  isplitl [H1]; · iapply stg_intro; iexact H1
  isplitl [H2]; · iapply stg_intro; iexact H2
  isplitl [H3]; · iapply stg_intro; iexact H3
  isplitl [H4]; · iapply stg_intro; iexact H4
  isplitl [H5]; · iapply stg_intro; iexact H5
  isplitl [H6]; · iapply stg_intro; iexact H6
  iapply stg_intro; iexact H7

theorem body_run (c : Dev nD) (hT : (given V c).Tables c) : bodyPre V c ⊢ run c prog (fun _ => bodyPost V c) := by
  refine (body_begun V c).trans ?_
  refine BIBase.Entails.trans ?_ (wp_fupd frame (wpE (defs₀ (F := F)) 𝒱₀ (c : Thread nD τ) none) Set.univ prog (fun _ => bodyPost V c))
  iintro ⟨%K, ⟨#HX, Hb⟩, Hp⟩
  iapply (run_prog K (given V) c hT) $$ [Hb]
  · isplitr; · iexact HX
    iexact Hb
  iintro He
  iapply (body_ended V K c)
  isplitr; · iexact HX
  isplitl [He]; · iexact He
  iexact Hp

theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-- What the pipeline calls is the kernel's program. -/
theorem body_row : defs₀ (F := F) .tc cfg0.body (cfg0.bodyArgs t₀ (cfg0.slots t₀)) = prog := by
  refine Eq.trans ?_ body_eq
  show _ = bodyAt0 t₀
  unfold defs₀; rw [Defs.onTc_tc]

theorem body_obligation (c : Dev nD) (hT : (given V c).Tables c) : BodyObligation (dats V 0 c) (defs₀ (F := F)) 𝒱₀ () Set.univ := fun t => by
  rw [fin_N t, bigSep_W, bigSep_W, body_row]
  refine triple_restated (body_run V c hT) rfl ?_ fun _ => ?_
  · simp only [owns_whole_eq]; exact .rfl
  · simp only [owns_whole_eq]; exact .rfl

/-! ## The call as a step -/

/-- The buffers after the call: only the result has changed. -/
def after (c : Dev nD) : Valuation τ sig (Elt F) := Function.update (V c) (Proc.devRef .tc main_v51) (result (given V) c)

theorem after_ne (c : Dev nD) {b : DevRef τ sig} (h : b ≠ Proc.devRef .tc main_v51) : after V c b = V c b := Function.update_of_ne h _ _

theorem after_result (c : Dev nD) : after V c (Proc.devRef .tc main_v51) = result (given V) c := Function.update_self _ _ _

theorem share_full (c : Dev nD) (w : Fin cfg0.W) : (dats V 0 c).share w = fullShare := by
  unfold Dat.share; split <;> rfl

theorem operand_ne : ∀ w : Fin 8, w ≠ 7 → Proc.devRef (τ := τ) .tc (Pipeline.arrRef spec0 w) ≠ Proc.devRef .tc main_v51 := by decide

theorem operand_in : ∀ w : Fin 8, w ≠ 7 → (cfg0.win w).isOut = false := by decide

theorem final_result (c : Dev nD) : (dats V 0 c).arrAt (7 : Fin 8) cfg0.N = result (given V) c := by
  rw [← block7 ((dats V 0 c).arrAt (7 : Fin 8) cfg0.N)]
  rw [show cfg0.N = ((0 : Fin 1) : Fin cfg0.N).val + 1 from rfl, (dats V 0 c).arrAt_succ (7 : Fin 8) (0 : Fin 1)]
  rw [show (cfg0.win (7 : Fin 8)).flush (0 : Fin 1) = true from by decide, if_pos rfl]
  exact View.read_write_univ _ _

theorem arrays_after (c : Dev nD) (w : Fin 8) : (dats V 0 c).arrAt w cfg0.N = after V c (Proc.devRef .tc (Pipeline.arrRef spec0 w)) := by
  by_cases h : w = 7
  · subst h
    exact (final_result V c).trans (after_result V c).symm
  · rw [after_ne V c (operand_ne w h)]
    exact (dats V 0 c).arrAt_in w (operand_in w h) _

theorem launchFacts : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The debts at the start are all above the staging of the windows. -/
theorem above_debts (c : Dev nD) : Above 0 (debts c) :=
  ((above_dues (k := 0) (by decide) c).add (above_tally _ _ _ (by rw [role_bar]; decide))).add (above_tally _ _ _ (by rw [role_bar]; decide))

theorem staging_low : ∀ (w : Fin 8) (s : Fin (cfg0.win w).nbuf), lvOf (role (.dma ((cfg0.win w).sem s))) = 0 := by decide

theorem own_sems : Pipeline.OwnSemFacts spec0 osem := by decide +kernel

set_option backward.isDefEq.respectTransparency.types false in
/-- The call. -/
def region (hT : ∀ c, (given V c).Tables c) : Pipeline.RegionSeg (pcfgs (F := F)) adm (dats V) () defs₀ 𝒱₀ L lv 0 :=
  Pipeline.RegionSeg.ofTalk (pcfgs (F := F)) adm (dats V) () defs₀ 𝒱₀ L lv 0 osem own_sems
    ∅ (Pipeline.ucRefs τ sig \ Pipeline.arrRefs spec0) (Finset.empty_subset _) launchFacts rfl (fun c => (body_obligation V c (hT c)).loose)
    (fun _ => 0) debts (fun c => (zero_add (debts c)).symm) (fun _ => rfl) (fun _ => rfl) (share_full V)
    V (after V) (fun c b hb => after_ne V c fun e => by
      rw [Finset.sdiff_empty] at hb
      exact (Finset.mem_sdiff.mp hb).2 (e ▸ Finset.mem_map.mpr ⟨main_v51, Finset.mem_image.mpr ⟨7, Finset.mem_univ _, rfl⟩, rfl⟩))
    (Tk V) Yk (Xk V) Yk (hopen V)
    (fun c => by
      show _ ⊢ Φ₀ V c
      unfold Φ₀
      iintro ⟨Hs, Hp, -, HX⟩
      isplitl [Hs]; · iexact Hs
      isplitl [Hp]; · iexact Hp
      iexact HX)
    (fun c => by
      show Φ₁ c ⊢ _
      unfold Φ₁ StableHlo.held
      rw [bigSep_empty]
      iintro ⟨Hs, Hp, Hz, HY⟩
      isplitl [Hs]; · iexact Hs
      isplitl [Hp]; · iexact Hp
      isplitr; · iempintro
      isplitl [Hz]; · iexact Hz
      iexact HY)
    (fun c => by iintro H; imodintro; iexact H)
    (fun _ => 0)
    ⟨fun c w s => by rw [L_tc]; exact Finset.mem_singleton_self _, fun c w s => le_of_eq (staging_low w s),
      fun c t g i h => by
        match t, h with
        | ⟨0, _⟩, h => exact above_debts c g i h
        | ⟨_ + 1, _⟩, h => exact absurd h (Nat.lt_irrefl 0)⟩
    (fun _ => iprop(emp)) (fun _ _ => rfl) (arrays_after V)

end Cert.KernelIdeal.Ring
-- ==== Proof.Deal.lean ====
/-
How the resources of the launch are dealt to the devices: the rights to signal go to the neighbours that use
them, and the credits come to the devices that wait.
-/
module

public import proofs.«01_k».proof.Proof.Region

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F]

local notation "𝕄" => MT nD τ sig Unit (Elt F) ℕ UU ℕ

/-! ## The rights to signal -/

/-- A hop of a flow: its direction, its half and its number. -/
abbrev Hop : Type := (Bool × Fin 16) ⊕ (Bool × Fin 15)

/-- The right to signal a barrier in either role, to end a send and to end a receive. -/
abbrev Tok : Type := Bool ⊕ (Hop ⊕ Hop)

def tok : Tok → SemLoc sig × ℕ × Bool
  | .inl u => (.reg bsem, 0, u)
  | .inr (.inl (.inl f)) => (.dma (sndN false f.1), f.2.val, false)
  | .inr (.inl (.inr f)) => (.dma (sndN true f.1), f.2.val, false)
  | .inr (.inr (.inl f)) => (.dma (rcvN false f.1 f.2.val), 0, false)
  | .inr (.inr (.inr f)) => (.dma (rcvN true f.1 f.2.val), 0, false)

theorem tok_inj : Function.Injective tok := by decide +kernel

def tokEmb : Dev nD × Tok ↪ GSem nD τ sig × ℕ × Bool :=
  ⟨fun p => (((p.1 : Thread nD τ), (tok p.2).1), (tok p.2).2), fun a b h => by
    have h1 := congrArg (fun t : GSem nD τ sig × ℕ × Bool => t.1.1.1) h
    have h2 := congrArg (fun t : GSem nD τ sig × ℕ × Bool => (t.1.2, t.2)) h
    exact Prod.ext h1 (tok_inj h2)⟩

/-- All rights to signal. -/
def tokens : Finset (GSem nD τ sig × ℕ × Bool) := Finset.univ.map tokEmb

/-- A family over the hops, by direction and half. -/
theorem hops (Φ : Bool → Bool → ℕ → sProp 𝕄) (Ψ : Hop → sProp 𝕄) (hl : ∀ f, Ψ (.inl f) = Φ false f.1 f.2.val) (hr : ∀ f, Ψ (.inr f) = Φ true f.1 f.2.val) :
    bigSep Finset.univ Ψ = bigSep Finset.univ fun d => bigSep Finset.univ fun h => bigSep (Finset.range (cnt d)) fun t => Φ d h t := by
  rw [bigSep_univ_sum, bigSep_univ_prod, bigSep_univ_prod, bigSep_bool fun d => bigSep Finset.univ fun h => bigSep (Finset.range (cnt d)) fun t => Φ d h t]
  have hR : ∀ h : Bool, bigSep Finset.univ (fun b : Fin 16 => Ψ (.inl (h, b))) = bigSep (Finset.range (cnt false)) fun t => Φ false h t :=
    fun h => Idealize.ShloMosaic.Ring.bigSep_fin_eq_range 16 _ _ fun t ht => (hl (h, ⟨t, ht⟩)).symm
  have hL : ∀ h : Bool, bigSep Finset.univ (fun b : Fin 15 => Ψ (.inr (h, b))) = bigSep (Finset.range (cnt true)) fun t => Φ true h t :=
    fun h => Idealize.ShloMosaic.Ring.bigSep_fin_eq_range 15 _ _ fun t ht => (hr (h, ⟨t, ht⟩)).symm
  simp only [hR, hL]
  rfl

/-- The rights that concern the semaphores of device `c`. -/
def near (c : Dev nD) : sProp 𝕄 :=
  iprop((bigSep Finset.univ fun u => dutyTok ER (bar c) 0 u)
    ∗ (bigSep Finset.univ fun d => bigSep Finset.univ fun h => bigSep (Finset.range (cnt d)) fun t => dutyTok ER (snd d h c) t false)
    ∗ (bigSep Finset.univ fun d => bigSep Finset.univ fun h => bigSep (Finset.range (cnt d)) fun t => dutyTok ER (rcv d h t c) 0 false))

theorem tokens_near : bigSep tokens (fun x => (dutyTok ER x.1 x.2.1 x.2.2 : sProp 𝕄)) = bigSep Finset.univ fun c : Dev nD => near c := by
  unfold tokens; rw [bigSep_map, bigSep_univ_prod]
  refine bigSep_congr fun c _ => ?_
  rw [bigSep_univ_sum, bigSep_univ_sum,
    hops (fun d h t => dutyTok ER (snd d h c) t false) (fun k : Hop => dutyTok ER (tokEmb (c, .inr (.inl k))).1 (tokEmb (c, .inr (.inl k))).2.1 (tokEmb (c, .inr (.inl k))).2.2)
      (fun _ => rfl) fun _ => rfl,
    hops (fun d h t => dutyTok ER (rcv d h t c) 0 false) (fun k : Hop => dutyTok ER (tokEmb (c, .inr (.inr k))).1 (tokEmb (c, .inr (.inr k))).2.1 (tokEmb (c, .inr (.inr k))).2.2)
      (fun _ => rfl) fun _ => rfl]
  rfl

/-- The neighbours on one side, as a renaming of the devices. -/
def around (d : Bool) : Dev nD ≃ Dev nD := ⟨dst d, src d, src_dst d, dst_src d⟩

/-- Everything handed to the neighbours on either side. -/
theorem hand (e : Bool → Dev nD ≃ Dev nD) (Ψ : Bool → Dev nD → sProp 𝕄) :
    (bigSep Finset.univ fun c => bigSep Finset.univ fun d => Ψ d c) = bigSep Finset.univ fun c => bigSep Finset.univ fun d => Ψ d (e d c) := by
  rw [bigSep_univ_comm, bigSep_congr fun d _ => bigSep_univ_equiv (e d) (Ψ d), bigSep_univ_comm]

/-- The rights that device `c` uses. -/
def used (c : Dev nD) : sProp 𝕄 :=
  iprop((dutyTok ER (bar (src false c)) 0 false ∗ dutyTok ER (bar (src true c)) 0 true) ∗ four fun d h => toks d h 0 c)

theorem tokens_used : bigSep tokens (fun x => (dutyTok ER x.1 x.2.1 x.2.2 : sProp 𝕄)) = bigSep Finset.univ fun c : Dev nD => used c := by
  rw [tokens_near]
  unfold near
  rw [bigSep_sep', bigSep_sep', hand (fun d => (around d).symm) fun u c => dutyTok ER (bar c) 0 u,
    hand around fun d c => bigSep Finset.univ fun h => bigSep (Finset.range (cnt d)) fun t => dutyTok ER (rcv d h t c) 0 false,
    ← bigSep_sep', ← bigSep_sep']
  refine bigSep_congr fun c _ => ?_
  unfold used toks
  rw [four_eq, bigSep_bool fun u => dutyTok ER (bar ((around u).symm c)) 0 u, ← bigSep_sep']
  refine congrArg (fun X : sProp 𝕄 => iprop((dutyTok ER (bar (src false c)) 0 false ∗ dutyTok ER (bar (src true c)) 0 true) ∗ X)) (bigSep_congr fun d _ => ?_)
  rw [← bigSep_sep']
  refine bigSep_congr fun h _ => ?_
  rw [← bigSep_sep', Finset.range_eq_Ico]
  rfl

/-! ## The credits -/

theorem cred_debt (d h : Bool) (c : Dev nD) :
    (Pipeline.launchCred (fun e => debt d h 0 e) c : sProp 𝕄) ⊢ bigSep (Finset.range (cnt d)) fun t => cred (tallyAt (rcv d h t c) () N) := by
  unfold debt
  rw [Pipeline.launchCred_sum, ← Finset.range_eq_Ico]
  exact bigSep_mono fun t _ => Pipeline.launchCred_tallyAt (.dma (rcvN d h t)) (dst d) (src d) (dst_src d) (src_dst d) () N c

theorem cred_bar (d : Bool) (c : Dev nD) :
    (Pipeline.launchCred (fun e => tallyAt (bar (src d e)) () 1) c : sProp 𝕄) ⊢ cred (tallyAt (bar c) () 1) :=
  Pipeline.launchCred_tallyAt (.reg bsem) (src d) (dst d) (src_dst d) (dst_src d) () 1 c

theorem creds (c : Dev nD) : (Pipeline.launchCred debts c : sProp 𝕄)
    ⊢ iprop(cred (tallyAt (bar c) () 2) ∗ four fun d h => bigSep (Finset.range (cnt d)) fun t => cred (tallyAt (rcv d h t c) () N)) := by
  have e : (Pipeline.launchCred debts c : sProp 𝕄)
      = iprop((((Pipeline.launchCred (fun e => debt false false 0 e) c ∗ Pipeline.launchCred (fun e => debt true false 0 e) c)
          ∗ (Pipeline.launchCred (fun e => debt false true 0 e) c ∗ Pipeline.launchCred (fun e => debt true true 0 e) c))
          ∗ Pipeline.launchCred (fun e => tallyAt (bar (src true e)) () 1) c) ∗ Pipeline.launchCred (fun e => tallyAt (bar (src false e)) () 1) c) := by
    rw [← Pipeline.launchCred_add, ← Pipeline.launchCred_add, ← Pipeline.launchCred_add, ← Pipeline.launchCred_add, ← Pipeline.launchCred_add]
    rfl
  rw [e, show (tallyAt (bar c) () 2 : CellTallies nD τ sig Unit) = tallyAt (bar c) () 1 + tallyAt (bar c) () 1 from (tallyAt_add _ _ 1 1).symm]
  unfold four
  iintro ⟨⟨⟨⟨A, B⟩, ⟨C, D⟩⟩, E⟩, G⟩
  isplitl [E G]
  · iapply (cred_add _ _).2
    isplitl [E]
    · iapply (cred_bar true c); iexact E
    iapply (cred_bar false c); iexact G
  isplitl [A C]
  · isplitl [A]
    · iapply (cred_debt false false c); iexact A
    iapply (cred_debt false true c); iexact C
  isplitl [B]
  · iapply (cred_debt true false c); iexact B
  iapply (cred_debt true true c); iexact D

/-! ## The start -/

variable (V : Dev nD → Valuation τ sig (Elt F))

/-- What device `c` starts with, besides what it knows. -/
def linear (c : Dev nD) : sProp 𝕄 :=
  iprop(atPos ER (bar c) 0 ∅ 0 ∗ (bigSep Finset.univ fun k : Own => openTok ER ((c : Thread nD τ), osem k)) ∗ used c
    ∗ (cred (tallyAt (bar c) () 2) ∗ four fun d h => bigSep (Finset.range (cnt d)) fun t => cred (tallyAt (rcv d h t c) () N)))

theorem Tk_intro (K : GSem nD τ sig → ℕ) (c : Dev nD) : iprop(ctx (parts (given V)) K ∗ linear c) ⊢ Tk V c := by
  unfold linear used Tk meeting
  iintro ⟨#HX, Ha, Ho, ⟨⟨H0, H1⟩, Ht⟩, Hb, Hc⟩
  iexists K
  isplitr; · iexact HX
  isplitl [Ha Hb H0 H1]
  · isplitl [Ha]; · iexact Ha
    isplitl [Hb]; · iexact Hb
    isplitl [H0]; · iexact H0
    iexact H1
  isplitr [Ho]
  · unfold dealt
    iapply (four_join (fun d h => toks d h 0 c) fun d h => bigSep (Finset.range (cnt d)) fun t => cred (tallyAt (rcv d h t c) () N))
    isplitl [Ht]; · iexact Ht
    iexact Hc
  iexact Ho

/-- The state of a device before the call, besides its buffers. -/
def E₀ (c : Dev nD) : sProp 𝕄 := iprop(Tk V c ∗ (∃ r, prngReg c r) ∗ owesE c (debts c))
/-- The state of a device after the call. -/
def E₁ (c : Dev nD) : sProp 𝕄 := iprop(Yk c ∗ owesE c 0)

theorem cells_apart : Disjoint barCells ownCells := by
  have h : ∀ k : Own, osem k ≠ .reg bsem := by decide
  rw [Finset.disjoint_left]
  rintro g h₁ h₂
  obtain ⟨c, -, rfl⟩ := Finset.mem_map.mp h₁
  obtain ⟨ck, -, e⟩ := Finset.mem_map.mp h₂
  exact h ck.2 (congrArg Prod.snd e)

theorem sems_eq (c : Dev nD) : (unscopedSems0 c : sProp 𝕄) = semVal (bar c) 0 := by
  unfold unscopedSems0
  rw [bigSep_eq_bigSepL_of_eq [SemLoc.reg bsem] (by decide) (by decide)]; rfl

/-- A resource kept on device 0. -/
def parked (X : sProp 𝕄) (c : Dev nD) : sProp 𝕄 := if c = 0 then X else iprop(emp)

theorem parked_all (X : sProp 𝕄) : bigSep Finset.univ (parked X) = X := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-- The ghost state of the flows, before it is dealt. -/
def flows : sProp 𝕄 := BI.own (ER (launchOf barCells ownCells tokens))

/-- What a device has at the launch besides its buffers and its semaphores. -/
def rest (c : Dev nD) : sProp 𝕄 :=
  iprop((cred (tallyAt (bar c) () 2) ∗ four fun d h => bigSep (Finset.range (cnt d)) fun t => cred (tallyAt (rcv d h t c) () N))
    ∗ (∃ r, prngReg c r) ∗ owesE c (debts c))

theorem E₀_intro (K : GSem nD τ sig → ℕ) (c : Dev nD) :
    iprop(ctx (parts (given V)) K ∗ (atPos ER (bar c) 0 ∅ 0 ∗ (bigSep Finset.univ fun k : Own => openTok ER ((c : Thread nD τ), osem k)) ∗ used c ∗ rest c)) ⊢ E₀ V c := by
  unfold E₀ rest
  iintro ⟨#HX, Ha, Ho, Hu, Hc, Hp, HO⟩
  isplitr [Hp HO]
  · iapply (Tk_intro V K c)
    isplitr; · iexact HX
    unfold linear
    isplitl [Ha]; · iexact Ha
    isplitl [Ho]; · iexact Ho
    isplitl [Hu]; · iexact Hu
    iexact Hc
  isplitl [Hp]; · iexact Hp
  iexact HO

/-- What the launch hands to a device. -/
abbrev handed (g : Dev nD → PrngReg) (c : Dev nD) : sProp 𝕄 :=
  iprop(unscopedSems0 c ∗ owes (c : Thread nD τ) (debts c) ∅ ∗ Pipeline.launchCred debts c ∗ prngReg c (g c) ∗ parked flows c)

theorem handed_split (g : Dev nD → PrngReg) (c : Dev nD) : handed g c ⊢ (iprop(rest c ∗ semVal (bar c) 0 ∗ parked flows c) : sProp 𝕄) := by
  unfold handed rest owesE
  rw [sems_eq]
  iintro ⟨Hv, HO, Hc, Hp, HG⟩
  isplitr [Hv HG]
  · isplitl [Hc]; · iapply (creds c); iexact Hc
    isplitl [Hp]; · iexists (g c); iexact Hp
    iexists ∅; iexact HO
  isplitl [Hv]; · iexact Hv
  iexact HG

/-- The launch gives every device what it needs to begin. -/
theorem deal (g : Dev nD → PrngReg) :
    iprop((bigSep Finset.univ fun c : Dev nD => handed g c) ∗ levAts L lv) ⊢ (|={Set.univ}=> bigSep Finset.univ (E₀ V) : sProp 𝕄) := by
  have hs : (bigSep Finset.univ fun c : Dev nD => handed g c)
      ⊢ (iprop(bigSep Finset.univ rest ∗ (bigSep barCells fun g => semVal g 0) ∗ flows) : sProp 𝕄) := by
    refine (bigSep_mono fun c _ => handed_split g c).trans ?_
    rw [bigSep_sep', bigSep_sep', parked_all]
    unfold barCells
    rw [bigSep_map]
    exact BI.Entails.refl _
  have hj : iprop((bigSep barCells fun g => atPos ER g 0 ∅ 0) ∗ (bigSep ownCells fun g => openTok ER g)
        ∗ bigSep tokens (fun x => dutyTok ER x.1 x.2.1 x.2.2) ∗ bigSep Finset.univ rest)
      ⊢ (bigSep Finset.univ fun c : Dev nD => iprop(atPos ER (bar c) 0 ∅ 0 ∗ (bigSep Finset.univ fun k : Own => openTok ER ((c : Thread nD τ), osem k)) ∗ used c ∗ rest c) : sProp 𝕄) := by
    rw [bigSep_sep', bigSep_sep', bigSep_sep', tokens_used]
    unfold barCells ownCells
    rw [bigSep_map, bigSep_map, bigSep_univ_prod]
    exact BI.Entails.refl _
  iintro ⟨H, #HL⟩
  ihave H' := hs $$ H
  icases H' with ⟨HR, Hv, HG⟩
  unfold flows
  imod (Rounds.fund_launch ER (Rd (parts (given V))) cells_apart (fun g _ h => h) tokens) $$ [Hv HG] with ⟨%K, -, #Hinv, #Hr, Hat, Hopen, Htok⟩
  · isplitl [Hv]; · iexact Hv
    iexact HG
  imodintro
  iapply (bigSep_with_persistent (R := ctx (parts (given V)) K)
    (Φ := fun c => iprop(atPos ER (bar c) 0 ∅ 0 ∗ (bigSep Finset.univ fun k : Own => openTok ER ((c : Thread nD τ), osem k)) ∗ used c ∗ rest c)) fun c _ => E₀_intro V K c)
  isplitr
  · unfold ctx
    isplitr; · iexact HL
    isplitr; · iexact Hinv
    iexact Hr
  iapply hj
  isplitl [Hat]; · iexact Hat
  isplitl [Hopen]; · iexact Hopen
  isplitl [Htok]; · iexact Htok
  iexact HR

end Cert.KernelIdeal.Ring
-- ==== Proof.Run.lean ====
/-
The whole program runs: from any memory with every semaphore at zero it ends, its arguments as they were, the
result of every device the one stated, and every semaphore at zero again.
-/
module

public import proofs.«01_k».proof.Proof.Deal
public import Idealize.ShloMosaic.Lib.Quiescent

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation Seg)

variable {F : FTy → Type} [FloatOps F]

local notation "𝕄" => MT nD τ sig Unit (Elt F) ℕ UU ℕ

/-- The tables of a device, field by field. -/
theorem tables_of (V : Dev nD → Valuation τ sig (Elt F)) (c : Dev nD)
    (hr : (V c main_v26 : S2.Idx → BitVec 32) (ix1 0) = BitVec.ofNat 32 (dst false c).val)
    (hl : (V c main_v26 : S2.Idx → BitVec 32) (ix1 1) = BitVec.ofNat 32 (dst true c).val)
    (hR : ∀ k : Fin 16, (V c main_v38 : S16.Idx → BitVec 32) (ix1 k) = BitVec.ofNat 32 (goal false k.val c).val)
    (hL : ∀ k : Fin 15, (V c main_v50 : S15.Idx → BitVec 32) (ix1 k) = BitVec.ofNat 32 (goal true k.val c).val) :
    (given V c).Tables c := ⟨hr, hl, hR, hL⟩

variable (m : (ℓ : Loc nD τ sig) → Buf (Elt F) ℓ)

/-- The buffers of a device when the call begins. -/
@[irreducible] def entry (c : Dev nD) : Valuation τ sig (Elt F) := V9 m c

theorem entry_eq (c : Dev nD) : entry m c = V9 m c := by unfold entry; rfl

theorem tables (c : Dev nD) : (given (entry m) c).Tables c := by
  apply tables_of
  · rw [entry_eq]; exact right_word m c
  · rw [entry_eq]; exact left_word m c
  · intro k; rw [entry_eq]; exact sched_right m c k
  · intro k; rw [entry_eq]; exact sched_left m c k

theorem entry_arg0 (c : Dev nD) : entry m c main_arg0 = m ((c : Thread nD τ).loc main_arg0) := by
  rw [entry_eq]; exact (V10_of m (fun _ r c => V9 m c r) c main_arg0 (by decide)).symm.trans (V10_main_arg0 m _ c)
theorem entry_arg1 (c : Dev nD) : entry m c main_arg1 = m ((c : Thread nD τ).loc main_arg1) := by
  rw [entry_eq]; exact (V10_of m (fun _ r c => V9 m c r) c main_arg1 (by decide)).symm.trans (V10_main_arg1 m _ c)
theorem entry_arg2 (c : Dev nD) : entry m c main_arg2 = m ((c : Thread nD τ).loc main_arg2) := by
  rw [entry_eq]; exact (V10_of m (fun _ r c => V9 m c r) c main_arg2 (by decide)).symm.trans (V10_main_arg2 m _ c)
theorem entry_arg3 (c : Dev nD) : entry m c main_arg3 = m ((c : Thread nD τ).loc main_arg3) := by
  rw [entry_eq]; exact (V10_of m (fun _ r c => V9 m c r) c main_arg3 (by decide)).symm.trans (V10_main_arg3 m _ c)

theorem after_arg (V : Dev nD → Valuation τ sig (Elt F)) (c : Dev nD) (r : Ref sig .tc) (h : r ∉ ([main_v51] : List (Ref sig .tc))) :
    after V c (Proc.devRef .tc r) = V c (Proc.devRef .tc r) :=
  after_ne V c (StableHlo.devRef_ne_of_ne (List.ne_of_not_mem_cons h))

/-! ## The call among the steps of the program -/

variable (V : Dev nD → Valuation τ sig (Elt F)) (hT : ∀ c, (given V c).Tables c)

theorem region_pre (c : Dev nD) : iprop(StableHlo.held (c : Thread nD τ) (Pipeline.ucRefs τ sig) (V c) ∗ E₀ V c) ⊢ (region V hT).pre c := by
  show _ ⊢ iprop(StableHlo.held (c.tc : Thread nD τ) (Pipeline.arrRefs (τ := τ) spec0) (V c) ∗ (∃ r, prngReg c r)
    ∗ (StableHlo.held (c.tc : Thread nD τ) (Pipeline.ucRefs τ sig \ Pipeline.arrRefs spec0) (V c) ∗ emp) ∗ Tk V c ∗ ∃ Wd, owes (c : Thread nD τ) (0 + debts c) Wd)
  rw [StableHlo.held_sub_split (c.tc : Thread nD τ) (Pipeline.arrRefs_sub_ucRefs spec0 winFacts0.arr_unscoped) (V c), zero_add]
  unfold E₀ owesE
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (region V hT).post c ⊢ iprop(StableHlo.held (c : Thread nD τ) (Pipeline.ucRefs τ sig) (after V c) ∗ E₁ (F := F) c) := by
  show iprop(StableHlo.held (c.tc : Thread nD τ) (Pipeline.arrRefs (τ := τ) spec0) (after V c) ∗ (∃ r, prngReg c r)
    ∗ (StableHlo.held (c.tc : Thread nD τ) (Pipeline.ucRefs τ sig \ Pipeline.arrRefs spec0) (after V c) ∗ emp) ∗ Yk c
      ∗ ∃ Wd, owes (c : Thread nD τ) (0 : CellTallies nD τ sig Unit) Wd) ⊢ _
  rw [StableHlo.held_sub_split (c.tc : Thread nD τ) (Pipeline.arrRefs_sub_ucRefs spec0 winFacts0.arr_unscoped) (after V c)]
  unfold E₁ owesE
  iintro ⟨Ha, -, ⟨Hr, -⟩, Hy, HO⟩
  isplitl [Ha Hr]
  · isplitl [Ha]; · iexact Ha
    iexact Hr
  isplitl [Hy]; · iexact Hy
  iexact HO

/-! ## The run -/

def E (j : Fin 2) (c : Dev nD) : sProp 𝕄 := if j = 0 then E₀ (entry m) c else E₁ c

theorem E_before (c : Dev nD) : E m 0 c = E₀ (entry m) c := if_pos rfl

/-- What the call leaves. -/
def left : Outs (F := F) := fun _ r c => after (entry m) c r

theorem V10_after (c : Dev nD) : V10 m (left m) c = after (entry m) c := by
  show Function.update (V9 m c) (Proc.devRef .tc main_v51) (after (entry m) c (Proc.devRef .tc main_v51)) = _
  rw [after_result, ← entry_eq]; rfl

/-- The state of the ghosts at the launch. -/
def u₀ : UU :=
  (initOf (Pipeline.cells (Pipeline.pin (pcfgs (F := F)) adm) cellOf_inj) (Pipeline.launchToks (Pipeline.pin (pcfgs (F := F)) adm) cellOf_inj),
    launchOf barCells ownCells tokens)

theorem unscoped_bar : ∀ sm : SemLoc sig, sm.isScoped .tc = false → sm = .reg bsem := by decide

/-- What a device holds at the end. -/
abbrev Tₙ (c : Dev nD) : sProp 𝕄 := iprop(StableHlo.held (c : Thread nD τ) (Pipeline.ucRefs τ sig) (after (entry m) c) ∗ semVal (bar c) 0)

/-- What is read off the final state of a device. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.mem ((c.tc : Thread nD τ).loc main_v51) = result (given (entry m)) c

theorem mem_uc (r : Ref sig .tc) (h : ¬ (Proc.devRef (τ := τ) .tc r).isScoped = true) : Proc.devRef (τ := τ) .tc r ∈ Pipeline.ucRefs τ sig :=
  Finset.mem_filter.mpr ⟨StableHlo.devRef_mem_tcRefs r, h⟩

theorem at_end (c : Dev nD) (s : Phys nD τ sig (Elt F)) :
    iprop(Tₙ m c ∗ SI s) ⊢ |={Set.univ}=> iprop(⌜Ends m c s.mem ∧ s.mem.sem (bar c) = 0⌝ ∗ SI s) := by
  unfold Tₙ StableHlo.held
  iintro ⟨⟨Hh, Hb⟩, HSI⟩
  icombine HSI Hb gives %hb
  ihave Hr := (pointsTo_read_all (Pipeline.ucRefs τ sig) (fun b => ((c : Thread nD τ).1, b)) (after (entry m) c) s) $$ [Hh HSI]
  · isplitl [Hh] <;> iassumption
  icases Hr with ⟨%h, HSI⟩
  imodintro
  isplitr
  · ipureintro
    refine ⟨⟨⟨?_, ?_, ?_, ?_⟩, ?_⟩, by simpa using hb⟩
    · exact (h _ (mem_uc main_arg0 (by decide))).trans ((after_arg (entry m) c main_arg0 (by decide)).trans (entry_arg0 m c))
    · exact (h _ (mem_uc main_arg1 (by decide))).trans ((after_arg (entry m) c main_arg1 (by decide)).trans (entry_arg1 m c))
    · exact (h _ (mem_uc main_arg2 (by decide))).trans ((after_arg (entry m) c main_arg2 (by decide)).trans (entry_arg2 m c))
    · exact (h _ (mem_uc main_arg3 (by decide))).trans ((after_arg (entry m) c main_arg3 (by decide)).trans (entry_arg3 m c))
    · exact (h _ (mem_uc main_v51 (by decide))).trans (after_result (entry m) c)
  iexact HSI

set_option backward.isDefEq.respectTransparency.types false in
/-- The program runs. -/
theorem run_main (g : Dev nD → PrngReg) : θ_run defs (onTc (τ := τ) (main (F := F))) ⟨m, fun _ => 0, g⟩
    (fun r => (∀ c : Dev nD, Ends m c r.2) ∧ r.2.sem = fun _ => 0) := by
  refine Pipeline.θ_run_regions_kit_dev_sems (pcfgs (F := F)) adm (dats (entry m)) () cellOf_inj EP defs₀ 𝒱₀ L lv m g main
    (segs m 𝒱₀ L lv (E m) () (dats (entry m)) (region (entry m) (tables m)))
    (fun c Q => by
      rewrite [main_chain c, Seg.run_eq_chain,
        show (segs m 𝒱₀ L lv (E m) () (dats (entry m)) (region (entry m) (tables m)) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := debts) (hL := L_of_ne) (G := parked flows) (u₀ := u₀ (F := F))
    (hu₀ := ?_)
    (T₀ := fun c => iprop(StableHlo.held (c : Thread nD τ) (Pipeline.ucRefs τ sig) (V0 m c) ∗ E m 0 c))
    (Tₙ := Tₙ m)
    (hch := fun c => ⟨.rfl, .rfl, .rfl, .rfl, .rfl, .rfl, .rfl, .rfl, .rfl, ?_, ?_⟩)
    (hinit := ?_) (QY := fun c s => Ends m c s ∧ s.sem (bar c) = 0) (hfin := at_end m) (hQ := ?_)
  · unfold u₀ flows
    iintro Hu
    ihave H := (ownU_pair _ _) $$ Hu
    icases H with ⟨HP, HX⟩
    imodintro
    isplitl [HP]; · iexact HP
    rw [parked_all]; iexact HX
  · have h := region_pre (entry m) (tables m) c
    rw [← E_before m c, entry_eq m c] at h
    exact h
  · refine (region_post (entry m) (tables m) c).trans ?_
    unfold E₁ Yk owesE
    iintro ⟨Hh, Hb, HO⟩
    isplitl [Hh Hb]
    · isplitl [Hh]; · iexact Hh
      iexact Hb
    iexact HO
  · have hsplit : (bigSep Finset.univ fun c : Dev nD => iprop(unscopedBufs c (fun b => m ((c.tc : Thread nD τ).loc b)) ∗ handed g c))
        ⊢ (iprop((bigSep Finset.univ fun c : Dev nD => StableHlo.held (c : Thread nD τ) (Pipeline.ucRefs τ sig) (V0 m c))
            ∗ bigSep Finset.univ fun c : Dev nD => handed g c) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal (entry m) g) $$ [Hr Hla] with HE
    · isplitl [Hr]; · iexact Hr
      iexact Hla
    imodintro
    rw [bigSep_sep']
    isplitl [Hh]; · iexact Hh
    iexact HE
  · exact fun s h hs => ⟨fun c => (h c).1, sem_eq_zero hs fun c sm hsm => by
      obtain rfl := unscoped_bar sm hsm
      exact (h c).2⟩

end Cert.KernelIdeal.Ring
-- ==== Proof.Same.lean ====
/-
The bodies of the two readings of the kernel run the same operations.
-/
module

public import proofs.«01_k».proof.Proof.Shape
public import proofs.«01_k».proof.Proof.Gen.Kernel.Skeleton

@[expose] public section

noncomputable section

namespace Cert.Proof

open Idealize.ShloMosaic Idealize.ShloMosaic.TcCoe Idealize.SL.Sem
open Cert.KernelIdeal.Ring Cert.Kernel

variable {F : FTy → Type} [FloatOps F]

set_option maxRecDepth 65536 in
set_option maxHeartbeats 0 in
/-- The body over bits runs the operations of the short program, one by one. -/
theorem body_same : Cert.Kernel.cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) cc0_scratch9 cc0_scratch10 cc0_scratch11 cc0_scratch12 cc0_scratch13
      = (prog (F := F)) := by
  rw [Cert.Kernel.Gen.cc0_body_eq_skeleton]
  repeat refine op_congr fun _ => ?_
  rfl
end Cert.Proof

end
-- ==== Proof.Host.lean ====
/-
The lines that the two readings of the kernel run on the host are the same lines.
-/
module

public import proofs.«01_k».proof.Proof.Gen.KernelIdeal.Regions
public import proofs.«01_k».proof.Proof.Gen.Kernel.Regions

@[expose] public section

noncomputable section

namespace Cert.Proof

open Idealize.ShloMosaic Idealize.ShloMosaic.TcCoe Idealize.SL.Sem

variable {F : FTy → Type} [FloatOps F]

/-- The host's stretches of lines before the call, of the kernel over bits. -/
abbrev linesK (c : Dev Cert.Kernel.nD) : List (List (HloOp Cert.Kernel.τ Cert.Kernel.sig (Elt F))) :=
  open Cert.Kernel.Gen in [hostOps0 c, hostOps0_1, hostOps0_2, hostOps0_3, hostOps0_4, hostOps0_5, hostOps0_6, hostOps0_7, hostOps0_8]

/-- The same of the kernel over the ideal instance. -/
abbrev linesI (c : Dev Cert.KernelIdeal.nD) : List (List (HloOp Cert.KernelIdeal.τ Cert.KernelIdeal.sig (Elt F))) :=
  open Cert.KernelIdeal.Gen in [hostOps0 c, hostOps0_1, hostOps0_2, hostOps0_3, hostOps0_4, hostOps0_5, hostOps0_6, hostOps0_7, hostOps0_8]

set_option smartUnfolding false
set_option maxHeartbeats 0

theorem lines_same (c : Dev Cert.Kernel.nD) : linesK (F := F) c = linesI c := rfl

/-- Stretches of lines and then the call, as a program of the kernel over bits. -/
def thenCall (L : List (List (HloOp Cert.Kernel.τ Cert.Kernel.sig (Elt F)))) :
    Prog (TpuEff Cert.Kernel.nD Cert.Kernel.τ Cert.Kernel.sig (Elt F)
      (Pipeline.Sig Cert.Kernel.Λ₀ (Fin 1) fun p => (Cert.Kernel.pcfgs (F := F) p).Adm) .tc) PUnit :=
  Pipeline.chain (L.map StableHlo.seq ++ [Prog.lift (.customCall (Pipeline.entry 0) ())])

theorem host_bits (c : Dev Cert.Kernel.nD) : Cert.Kernel.main (F := F) c = thenCall (linesK c) :=
  Cert.Kernel.Gen.main_chain c

theorem host_ideal (c : Dev Cert.Kernel.nD) : thenCall (F := F) (linesI c) = Cert.KernelIdeal.main (F := F) c :=
  (Cert.KernelIdeal.Gen.main_chain (F := F) c).symm

theorem host_same (c : Dev Cert.Kernel.nD) : Cert.Kernel.main (F := F) c = Cert.KernelIdeal.main (F := F) c :=
  (host_bits c).trans ((congrArg thenCall (lines_same c)).trans (host_ideal c))

end Cert.Proof

end
-- ==== Proof.Frames.lean ====
/-
The three programs run to the end and leave their arguments alone.  The kernel over bits is, line by line, the kernel over
the ideal instance, whose run serves for any floats.
-/
module

public import proofs.«01_k».proof.Proof.Run
public import proofs.«01_k».proof.Proof.Same
public import proofs.«01_k».proof.Proof.Host
public import proofs.«01_k».proof.Defs
public import proofs.«01_k».proof.Proof.Gen.ReferenceIdeal.Frame

@[expose] public section

noncomputable section

namespace Cert.Proof

open Idealize.ShloMosaic Idealize.ShloMosaic.TcCoe Idealize.SL.Sem
open Cert.KernelIdeal.Ring

variable {F : FTy → Type} [FloatOps F]

/-- The body's row of the kernel over bits. -/
theorem row_bits (a : Cert.Kernel.Λ₀.Args 0) : Cert.Kernel.defs₀ (F := F) .tc 0 a = prog (F := F) := by
  refine Eq.trans ?_ body_same
  unfold Cert.Kernel.defs₀; rw [Defs.onTc_tc]

/-- The body's row of the kernel over the ideal instance. -/
theorem row_ideal (a : Cert.KernelIdeal.Λ₀.Args 0) : Cert.KernelIdeal.defs₀ (F := F) .tc 0 a = prog (F := F) := by
  refine Eq.trans ?_ body_eq
  unfold Cert.KernelIdeal.defs₀; rw [Defs.onTc_tc]

theorem table_bits : Cert.Kernel.defs₀ (F := F) = Defs.onTc (Cert.Kernel.defs₀ (F := F) .tc) := by
  unfold Cert.Kernel.defs₀; rw [Defs.onTc_tc]

theorem table_ideal : Cert.KernelIdeal.defs₀ (F := F) = Defs.onTc (Cert.KernelIdeal.defs₀ (F := F) .tc) := by
  unfold Cert.KernelIdeal.defs₀; rw [Defs.onTc_tc]

/-- There is one row, the body's. -/
theorem rows_same : Cert.Kernel.defs₀ (F := F) .tc = Cert.KernelIdeal.defs₀ (F := F) .tc := by
  funext l a
  obtain rfl := Subsingleton.elim (α := Fin 1) l 0
  exact (row_bits a).trans (row_ideal a).symm

theorem table_same : Cert.Kernel.defs₀ (F := F) = Cert.KernelIdeal.defs₀ (F := F) :=
  table_bits.trans ((congrArg Defs.onTc rows_same).trans table_ideal.symm)

set_option smartUnfolding false in
theorem defs_same : Cert.Kernel.defs (F := F) = Cert.KernelIdeal.defs (F := F) :=
  congrArg (Pipeline.defs (Cert.Kernel.pcfgs (F := F))) table_same

set_option smartUnfolding false in
/-- The two readings have the same runs. -/
theorem runs_same : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg₂ (fun D p => θ_run (nD := Cert.Kernel.nD) (τ := Cert.Kernel.τ) (sig := Cert.Kernel.sig) D (onTc p)) defs_same (funext host_same)

theorem frame_kernel : Cert.quiescent_Kernel (hKernel := Cert.Kernel.Gen.facts) := fun m g _ => by
  rw [runs_same]
  exact (θ_run (Cert.KernelIdeal.defs (F := Bits)) _ _).mono (fun _ h => ⟨fun c => (h.1 c).1, h.2⟩) (run_main (F := Bits) m g)

theorem frame_ideal : Cert.quiescent_KernelIdeal (hKernelIdeal := Cert.KernelIdeal.Gen.facts) := fun m g _ =>
  (θ_run (Cert.KernelIdeal.defs (F := Ideal)) _ _).mono (fun _ h => ⟨fun c => (h.1 c).1, h.2⟩) (run_main (F := Ideal) m g)

theorem frame_reference : Cert.quiescent_ReferenceIdeal (hReferenceIdeal := Cert.ReferenceIdeal.Gen.facts) := fun m g _ =>
  Cert.ReferenceIdeal.Gen.frame m g

end Cert.Proof

end
-- ==== Proof.Whole.lean ====
/-
What the reference computes: its result array as one function of its arguments, and that function entry by entry over the
extended reals.
-/
module

public import proofs.«01_k».proof.Proof.Gen.ReferenceIdeal.Value
public import proofs.«01_k».proof.Proof.Gen.ReferenceIdeal.Frame
public import Idealize.ShloMosaic.Lib.Pipeline.ValueKit.Geometry
public import Idealize.ShloMosaic.Lib.MatmulPlain
public import Idealize.ShloMosaic.Lib.IdealHost

@[expose] public section

noncomputable section

namespace Cert

open Idealize.ShloMosaic

/-- The activation of the reference over the extended reals: `y / (1 + exp (-y))`. -/
def swish (y : EReal) : EReal := Ideal.div y (1 + Ideal.exp (0 - y))

theorem exp_nonneg (x : EReal) : 0 ≤ Ideal.exp x := by
  induction x with
  | bot => exact le_refl _
  | top => exact le_top
  | coe r => exact EReal.coe_nonneg.mpr (Real.exp_pos r).le

theorem one_add_exp_ne (x : EReal) : (1 + Ideal.exp x : EReal) ≠ 0 :=
  ne_of_gt (lt_of_lt_of_le zero_lt_one (le_add_of_nonneg_right (exp_nonneg x)))

/-- The kernel multiplies by the reciprocal instead: the same, since the denominator is never zero. -/
theorem mul_recip (y : EReal) : y * Ideal.div 1 (1 + Ideal.exp (0 - y)) = swish y := by
  unfold swish Ideal.div
  rw [if_neg (one_add_exp_ne _), if_neg (one_add_exp_ne _), one_mul]

end Cert

namespace Cert.ReferenceIdeal.Whole

open Idealize.ShloMosaic Idealize.ShloMosaic.TcCoe Idealize.SL.Sem Idealize.ShloMosaic.ValueIdx
open Cert.ReferenceIdeal Cert.ReferenceIdeal.Gen

variable {F : FTy → Type} [FloatOps F]

/-- The result array as one function of the argument arrays. -/
def whole (x : Vec F S4096x4096 .fp8e4m3) (w : Vec F S4096x2048 .fp8e5m2) (sx sw : Vec F S1 .f32) : FVec F S4096x2048 .f32 :=
  k0_pay1 x w (sx (ix1 0)) (sw (ix1 0))

theorem zeros : (![0, 0] : Fin 2 → Nat) = fun _ => 0 := funext fun a => by fin_cases a <;> rfl

/-- The body leaves that function of its input buffers in the output's buffer. -/
theorem out_eq (c : Dev nD) (arg0 : Memref sig .tc .vmem S4096x4096 .fp8e4m3) (h0 : arg0.IsWhole)
    (arg1 : Memref sig .tc .vmem S4096x2048 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x2048 .f32) (h4 : arg4.IsWhole)
    (x : Vec F S4096x4096 .fp8e4m3) (w : Vec F S4096x2048 .fp8e5m2) (sx sw : Vec F S1 .f32) :
    out0_A_4 c arg0 h0 arg1 h1 arg2 h2 arg3 h3 arg4 h4 x w sx sw = whole x w sx sw := by
  unfold out0_A_4
  rw [View.read_writes_junk_eq_canon]
  show View.canon ([⟨Rect.unit ![0, 0] S4096x2048.size inb_S4096x2048_S4096x2048_0_0,
      k0_pay1
        (View.readAt (Elt F) arg0.view (Rect.unit ![0, 0] S4096x4096.size inb_S4096x4096_S4096x4096_0_0).toLoadRect (h0.unread x))
        (View.readAt (Elt F) arg1.view (Rect.unit ![0, 0] S4096x2048.size inb_S4096x2048_S4096x2048_0_0).toLoadRect (h1.unread w))
        (View.readAt (Elt F) arg2.view (Rect.unit (s := S1) ![0] S1.size inb_S1_S1_0).toLoadRect (h2.unread sx) _)
        (View.readAt (Elt F) arg3.view (Rect.unit (s := S1) ![0] S1.size inb_S1_S1_0).toLoadRect (h3.unread sw) _)⟩] :
      List (View.Piece (Elt F) S4096x2048 .f32)) = _
  rw [View.canon_unit_zero zeros, View.readAt_eq_ld, View.readAt_eq_ld, View.readAt_eq_ld, View.readAt_eq_ld,
    h0.read_unread, h1.read_unread, h2.read_unread, h3.read_unread, View.ld_unit_zero zeros, View.ld_unit_zero zeros]
  exact congrArg₂ (k0_pay1 x w) (congrArg sx (funext fun a => by match a with | ⟨0, _⟩ => rfl))
    (congrArg sw (funext fun a => by match a with | ⟨0, _⟩ => rfl))

/-! ## The call works on whole arrays: the block of a window is its array -/

theorem block0 (t : Fin cfg0.N) (f : main_arg0.ty.Contents (Elt F)) : ((cfg0.win 0).blk t).view.read (Elt F) f = f := by
  obtain rfl := Subsingleton.elim (α := Fin 1) t 0
  exact Memref.read_access_unit_zero (Elt F) main_arg0 (funext fun a => by fin_cases a <;> decide) (fun a => by fin_cases a <;> decide) f
theorem block1 (t : Fin cfg0.N) (f : main_arg1.ty.Contents (Elt F)) : ((cfg0.win 1).blk t).view.read (Elt F) f = f := by
  obtain rfl := Subsingleton.elim (α := Fin 1) t 0
  exact Memref.read_access_unit_zero (Elt F) main_arg1 (funext fun a => by fin_cases a <;> decide) (fun a => by fin_cases a <;> decide) f
theorem block2 (t : Fin cfg0.N) (f : main_arg2.ty.Contents (Elt F)) : ((cfg0.win 2).blk t).view.read (Elt F) f = f := by
  obtain rfl := Subsingleton.elim (α := Fin 1) t 0
  exact Memref.read_access_unit_zero (Elt F) main_arg2 (funext fun a => by fin_cases a <;> decide) (fun a => by fin_cases a <;> decide) f
theorem block3 (t : Fin cfg0.N) (f : main_arg3.ty.Contents (Elt F)) : ((cfg0.win 3).blk t).view.read (Elt F) f = f := by
  obtain rfl := Subsingleton.elim (α := Fin 1) t 0
  exact Memref.read_access_unit_zero (Elt F) main_arg3 (funext fun a => by fin_cases a <;> decide) (fun a => by fin_cases a <;> decide) f
theorem block4 (t : Fin cfg0.N) (f : main_v0.ty.Contents (Elt F)) : ((cfg0.win 4).blk t).view.read (Elt F) f = f := by
  obtain rfl := Subsingleton.elim (α := Fin 1) t 0
  exact Memref.read_access_unit_zero (Elt F) main_v0 (funext fun a => by fin_cases a <;> decide) (fun a => by fin_cases a <;> decide) f

variable (m : (ℓ : Loc nD τ sig) → Buf (Elt F) ℓ) (ρ : Dev nD → PrngReg)

/-- The result array after the run. -/
theorem final (c : Dev nD) : (dats m 0 c).arrAt 4 cfg0.N
    = whole (m ((c : Thread nD τ).loc main_arg0)) (m ((c : Thread nD τ).loc main_arg1))
        (m ((c : Thread nD τ).loc main_arg2)) (m ((c : Thread nD τ).loc main_arg3)) := by
  have t : Fin cfg0.N := ⟨0, by decide⟩
  rw [← block4 t ((dats m 0 c).arrAt 4 cfg0.N), Value.blocks4 m c t (flush0_4 t), Value.flushed4_A, out_eq]
  unfold iblk
  rw [block0, block1, block2, block3]
  rfl

/-- The reference runs to the end, its result is that function of its arguments, and the arguments stay. -/
theorem run : θ_run defs (onTc (τ := τ) (main (F := F))) ⟨m, fun _ => 0, ρ⟩ fun r => ∀ c : Dev nD,
      r.2.mem ((c : Thread nD τ).loc main_v0) = whole (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

theorem act_apply (p : FVec Ideal S4096x2048 .f32) (s : EReal) (i : S4096x2048.Idx) :
    divf (mulf p (broadcast S4096x2048 (s : Ideal .f32)))
      (addf (broadcast S4096x2048 (Scalar.ofBits .f32 0x3F800000#32))
        (exp (subf (broadcast S4096x2048 (Scalar.ofBits .f32 0x00000000#32)) (mulf p (broadcast S4096x2048 (s : Ideal .f32)))))) i
      = swish ((p i : EReal) * s) := by
  show Ideal.div ((p i : EReal) * s) ((Ideal.ofBits .f32 0x3F800000#32 : EReal) + Ideal.exp ((Ideal.ofBits .f32 0x00000000#32 : EReal) - (p i : EReal) * s)) = _
  rw [Ideal.ofBits_zero_f32, Ideal.ofBits_one_f32]
  rfl

/-- One entry of the result: the activation of the scaled dot product of a row and a column. -/
theorem whole_apply (x : Vec Ideal S4096x4096 .fp8e4m3) (w : Vec Ideal S4096x2048 .fp8e5m2) (sx sw : Vec Ideal S1 .f32)
    (r : Fin 4096) (b : Fin 2048) :
    whole x w sx sw (ix2 r b) = swish ((∑ k : Fin 4096, (x (ix2 r k) * w (ix2 k b) : EReal)) * (sx (ix1 0) * sw (ix1 0) : EReal)) := by
  have hm : matmul (F := Ideal) dot_S4096x4096_S4096x2048_S4096x2048_1_0_0_1_n_n none (extf .f32 x bitsLt_fp8e4m3_f32)
      (extf .f32 w bitsLt_fp8e5m2_f32) (constant S4096x2048 .f32 0x00000000#32) (ix2 r b) = ∑ k : Fin 4096, (x (ix2 r k) * w (ix2 k b) : EReal) := by
    refine (Ideal.matmul_plain_apply none _ _ _ r b).trans ?_
    show (Ideal.ofBits .f32 0x00000000#32 : EReal) + _ = _
    rw [Ideal.ofBits_zero_f32, zero_add]
    rfl
  rw [← hm]
  exact act_apply _ _ _

end Cert.ReferenceIdeal.Whole

end
-- ==== Proof.Value.lean ====
/-
What the kernel computes over the extended reals: block `c` of the rows of the activation of the scaled product.

The product of row `a` of block `c` with column `b` is a sum over all devices of what each contributes from its own columns of
the left-hand array and rows of the right-hand one (`share`).  A flow adds one device's share per hop, on its way to device `c`;
the two flows and the own product together pass every device exactly once.
-/
module

public import proofs.«01_k».proof.Proof.Run
public import proofs.«01_k».proof.Proof.Whole

@[expose] public section

noncomputable section

namespace Cert.KernelIdeal.Ring

open Idealize.ShloMosaic Idealize.ShloMosaic.TcCoe Idealize.SL.Sem
open Cert.KernelIdeal Cert.KernelIdeal.Gen
open scoped BigOperators

/-! ## Where the entries are -/

/-- Row `a` of the block of device `c`. -/
def row (c : Dev nD) (a : Fin 128) : Fin 4096 := ⟨c.val * 128 + a.val, by have : c.val < 32 := c.isLt; omega⟩

/-- Column `b` of a half of the columns. -/
def col (h : Bool) (b : Fin 1024) : Fin 2048 := ⟨(if h then 1024 else 0) + b.val, by cases h <;> simp <;> omega⟩

/-- What a device contributes to entry `(a, b)` of the product's block `c`. -/
def share (g : Given Ideal) (c : Dev nD) (a : Fin 128) (b : Fin 2048) : EReal :=
  ∑ k : Fin 128, (g.x (ix2 (row c a) k) * g.w (ix2 k b) : EReal)

theorem rows_apply (g : Given Ideal) (r : Dev nD) (a k : Fin 128) : rows g r (ix2 a k) = g.x (ix2 (row r a) k) := by
  have ho : ∀ r : Dev nD, k0_off1 (BitVec.ofNat 32 r.val) 0 = r.val * 128 ∧ k0_off1 (BitVec.ofNat 32 r.val) 1 = 0 := by decide +kernel
  refine congrArg g.x (funext fun i => Fin.ext ?_)
  match i with
  | ⟨0, _⟩ => show k0_off1 (BitVec.ofNat 32 r.val) 0 + 1 * a.val = r.val * 128 + a.val; rw [(ho r).1, one_mul]
  | ⟨1, _⟩ => show k0_off1 (BitVec.ofNat 32 r.val) 1 + 1 * k.val = k.val; rw [(ho r).2, one_mul, zero_add]

/-- The product of the rows of a device with the own columns, entry by entry. -/
theorem own_apply (g : Given Ideal) (r : Dev nD) (a : Fin 128) (b : Fin 2048) : ownPart g r (ix2 a b) = share g r a b := by
  unfold ownPart k0_pay107 k0_pay2
  simp only [shapeCast_self]
  refine (Ideal.matmul_plain_apply none _ _ _ a b).trans ?_
  show (Ideal.ofBits .f32 0x00000000#32 : EReal) + _ = _
  rw [Ideal.ofBits_zero_f32, zero_add]
  exact Finset.sum_congr rfl fun k _ => congrArg (fun t : EReal => t * (g.w (ix2 k b) : EReal)) (rows_apply g r a k)

/-- Rounding is the identity over the extended reals, so a part sent is the same product. -/
theorem part_eq (g : Given Ideal) (r : Dev nD) : (part g r : S128x2048.Idx → EReal) = ownPart g r := rfl

theorem part_apply (g : Given Ideal) (r : Dev nD) (a : Fin 128) (b : Fin 2048) : part g r (ix2 a b) = share g r a b :=
  (congrFun (part_eq g r) _).trans (own_apply g r a b)

theorem slice_apply {φ : FTy} (off : Fin 2 → ℕ) (h : Bool) (hs : S128x2048.Slices off S128x1024) (h0 : off 0 = 0)
    (h1 : off 1 = if h then 1024 else 0) (p : FVec Ideal S128x2048 φ) (a : Fin 128) (b : Fin 1024) :
    extractStridedSlice S128x1024 off p hs (ix2 a b) = p (ix2 a (col h b)) := by
  refine extractStridedSlice_apply off p hs _ _ fun i => ?_
  match i with
  | ⟨0, _⟩ => show a.val = off 0 + a.val; rw [h0, zero_add]
  | ⟨1, _⟩ => show (if h then 1024 else 0) + b.val = off 1 + b.val; rw [h1]

theorem half_apply (h : Bool) (p : FVec Ideal S128x2048 .bf16) (a : Fin 128) (b : Fin 1024) :
    half h p (ix2 a b) = p (ix2 a (col h b)) := by
  cases h
  · unfold half k0_pay6; simp only [shapeCast_self]; exact slice_apply _ false _ (by rfl) (by rfl) p a b
  · unfold half k0_pay8; simp only [shapeCast_self]; exact slice_apply _ true _ (by rfl) (by rfl) p a b

theorem unlift (X : FVec Ideal S128x1024 .bf16) : shapeCast S128x1024 (lift3 X) shapeCasts_S1x128x1024_S128x1024 = X :=
  shapeCast_shapeCast _ _ _

theorem addIn_apply (h : Bool) (p : FVec Ideal S128x2048 .bf16) (X : FVec Ideal S128x1024 .bf16) (a : Fin 128) (b : Fin 1024) :
    addIn h p (lift3 X) (ix2 a b) = (X (ix2 a b) + p (ix2 a (col h b)) : EReal) := by
  cases h
  · unfold addIn k0_pay12; simp only [shapeCast_self]
    exact congrArg₂ (fun u t : EReal => u + t) (congrFun (unlift X) _) (slice_apply _ false _ (by rfl) (by rfl) p a b)
  · unfold addIn k0_pay14; simp only [shapeCast_self]
    exact congrArg₂ (fun u t : EReal => u + t) (congrFun (unlift X) _) (slice_apply _ true _ (by rfl) (by rfl) p a b)

/-! ## What a flow gathers -/

/-- One hop back, the rows in work are the same. -/
theorem goal_succ (d : Bool) (k : ℕ) (c : Dev nD) : goal d (k + 1) c = goal d k (src d c) := by
  have e : Fin.ofNat 32 (k + 1) = Fin.ofNat 32 k + 1 := by
    apply Fin.ext; show (k + 1) % 32 = (k % 32 + 1) % 32; omega
  cases d
  · show dev (pos c + 16 - Fin.ofNat 32 (k + 1)) = dev (pos (dev (pos c - 1)) + 16 - Fin.ofNat 32 k)
    rw [pos_dev, e]; exact congrArg dev (by omega)
  · show dev (pos c - 15 + Fin.ofNat 32 (k + 1)) = dev (pos (dev (pos c + 1)) - 15 + Fin.ofNat 32 k)
    rw [pos_dev, e]; exact congrArg dev (by omega)

variable (G : Dev nD → Given Ideal)

/-- What hop `s` of a flow carries away from a device: the shares of that device and of the `s` before it. -/
theorem acc_apply (d h : Bool) (a : Fin 128) (b : Fin 1024) (s : ℕ) (c : Dev nD) :
    acc (parts G) d h s c (ix2 a b) = ∑ j ∈ Finset.range (s + 1), share (G ((src d)^[j] c)) (goal d s c) a (col h b) := by
  induction s generalizing c with
  | zero =>
    rw [Finset.sum_range_one]
    exact (half_apply h _ a b).trans (part_apply _ _ _ _)
  | succ s ih =>
    rw [Finset.sum_range_succ', show acc (parts G) d h (s + 1) c = addIn h (parts G d (s + 1) c) (lift3 (acc (parts G) d h s (src d c))) from rfl,
      addIn_apply, ih, ← goal_succ]
    exact congrArg (fun t : EReal => _ + t) (part_apply _ _ _ _)

/-- The sixteen devices before, the fifteen after and the device itself are all the devices. -/
theorem all_devices (c : Dev nD) :
    (Multiset.range 16).map (fun j => (src false)^[j] (src false c)) + (Multiset.range 15).map (fun j => (src true)^[j] (src true c)) + {c}
      = (Finset.univ : Finset (Dev nD)).val := by
  revert c; decide +kernel

theorem sum_all (t : Dev nD → EReal) (c : Dev nD) :
    (∑ j ∈ Finset.range 16, t ((src false)^[j] (src false c))) + (∑ j ∈ Finset.range 15, t ((src true)^[j] (src true c))) + t c
      = ∑ p : Dev nD, t p := by
  have h := congrArg (fun s => (s.map t).sum) (all_devices c)
  simp only [Multiset.map_add, Multiset.sum_add, Multiset.map_map, Function.comp_def, Multiset.map_singleton, Multiset.sum_singleton] at h
  exact h

theorem last_goal : ∀ c : Dev nD, goal false 15 (src false c) = c ∧ goal true 14 (src true c) = c := by decide

/-- What arrives from both sides and the own product make the whole product. -/
theorem arrived_apply (h : Bool) (c : Dev nD) (a : Fin 128) (b : Fin 1024) :
    ((acc (parts G) false h 15 (src false c) (ix2 a b) + acc (parts G) true h 14 (src true c) (ix2 a b) : EReal)
        + ownPart (G c) c (ix2 a (col h b)) : EReal)
      = ∑ p : Dev nD, share (G p) c a (col h b) := by
  rw [acc_apply, acc_apply, own_apply, (last_goal c).1, (last_goal c).2]
  exact sum_all (fun p => share (G p) c a (col h b)) c

/-! ## The result -/

/-- The arithmetic at the end, once the sum is formed. -/
theorem act_apply (q : FVec Ideal S128x1024 .f32) (s : EReal) (i : S128x1024.Idx) :
    mulf (mulf q (broadcast S128x1024 (s : Ideal .f32)))
      (divf (broadcast S128x1024 (Scalar.ofBits .f32 0x3F800000#32))
        (addf (broadcast S128x1024 (Scalar.ofBits .f32 0x3F800000#32))
          (exp (subf (broadcast S128x1024 (Scalar.ofBits .f32 0x00000000#32)) (mulf q (broadcast S128x1024 (s : Ideal .f32))))))) i
      = swish ((q i : EReal) * s) := by
  rw [← mul_recip]
  show ((q i : EReal) * s) * Ideal.div (Ideal.ofBits .f32 0x3F800000#32 : EReal)
    ((Ideal.ofBits .f32 0x3F800000#32 : EReal) + Ideal.exp ((Ideal.ofBits .f32 0x00000000#32 : EReal) - (q i : EReal) * s)) = _
  rw [Ideal.ofBits_zero_f32, Ideal.ofBits_one_f32]

theorem sum_apply (u v : FVec Ideal S128x1024 .bf16) (q : FVec Ideal S128x1024 .f32) (i : S128x1024.Idx) :
    addf (addf (extf .f32 u bitsLt_bf16_f32) (extf .f32 v bitsLt_bf16_f32)) q i = ((u i : EReal) + (v i : EReal) + (q i : EReal) : EReal) := rfl

theorem gather_apply (h : Bool) (p : FVec Ideal S128x2048 .f32) (s : EReal) (r l : FVec Ideal S1x128x1024 .bf16) (a : Fin 128) (b : Fin 1024) :
    outHalf h p (s : Ideal .f32) r l (ix2 a b)
      = swish ((((shapeCast S128x1024 r shapeCasts_S1x128x1024_S128x1024 (ix2 a b) : EReal)
          + (shapeCast S128x1024 l shapeCasts_S1x128x1024_S128x1024 (ix2 a b) : EReal) : EReal) + (p (ix2 a (col h b)) : EReal) : EReal) * s) := by
  cases h
  · unfold outHalf k0_pay109; dsimp only
    refine (act_apply (addf (addf (extf .f32 (shapeCast S128x1024 r shapeCasts_S1x128x1024_S128x1024 : FVec Ideal S128x1024 .bf16) bitsLt_bf16_f32)
      (extf .f32 (shapeCast S128x1024 l shapeCasts_S1x128x1024_S128x1024 : FVec Ideal S128x1024 .bf16) bitsLt_bf16_f32))
        (extractStridedSlice S128x1024 ![0, 0] p slices_S128x2048_o0_0_S128x1024)) s (ix2 a b)).trans ?_
    rw [sum_apply]
    exact congrArg (fun t : EReal => swish ((((shapeCast S128x1024 r shapeCasts_S1x128x1024_S128x1024 (ix2 a b) : EReal)
      + (shapeCast S128x1024 l shapeCasts_S1x128x1024_S128x1024 (ix2 a b) : EReal) : EReal) + t) * s)) (slice_apply _ false _ (by rfl) (by rfl) p a b)
  · unfold outHalf k0_pay1; dsimp only
    refine (act_apply (addf (addf (extf .f32 (shapeCast S128x1024 r shapeCasts_S1x128x1024_S128x1024 : FVec Ideal S128x1024 .bf16) bitsLt_bf16_f32)
      (extf .f32 (shapeCast S128x1024 l shapeCasts_S1x128x1024_S128x1024 : FVec Ideal S128x1024 .bf16) bitsLt_bf16_f32))
        (extractStridedSlice S128x1024 ![0, 1024] p slices_S128x2048_o0_1024_S128x1024)) s (ix2 a b)).trans ?_
    rw [sum_apply]
    exact congrArg (fun t : EReal => swish ((((shapeCast S128x1024 r shapeCasts_S1x128x1024_S128x1024 (ix2 a b) : EReal)
      + (shapeCast S128x1024 l shapeCasts_S1x128x1024_S128x1024 (ix2 a b) : EReal) : EReal) + t) * s)) (slice_apply _ true _ (by rfl) (by rfl) p a b)

theorem outHalf_apply (h : Bool) (p : FVec Ideal S128x2048 .f32) (s : EReal) (R L : FVec Ideal S128x1024 .bf16) (a : Fin 128) (b : Fin 1024) :
    outHalf h p (s : Ideal .f32) (lift3 R) (lift3 L) (ix2 a b)
      = swish (((R (ix2 a b) + L (ix2 a b) : EReal) + p (ix2 a (col h b)) : EReal) * s) :=
  (gather_apply h p s _ _ a b).trans (congrArg₂ (fun u v : EReal => swish ((u + v + p (ix2 a (col h b))) * s))
    (congrFun (unlift R) _) (congrFun (unlift L) _))

/-- One entry of device `c`'s result. -/
def entryOf (c : Dev nD) (a : Fin 128) (b : Fin 2048) : EReal :=
  swish ((∑ p : Dev nD, share (G p) c a b) * ((G c).sx (ix1 0) * (G c).sw (ix1 0) : EReal))

theorem outOf_apply (h : Bool) (c : Dev nD) (a : Fin 128) (b : Fin 1024) :
    outOf (parts G) c (ownPart (G c) c) (scaleOf (G c)) h (ix2 a b) = entryOf G c a (col h b) :=
  (outHalf_apply h _ _ _ _ a b).trans (congrArg (fun t : EReal => swish (t * ((G c).sx (ix1 0) * (G c).sw (ix1 0) : EReal))) (arrived_apply G h c a b))

theorem result_apply (c : Dev nD) (a : Fin 128) (b : Fin 2048) : result G c (ix2 a b) = entryOf G c a b := by
  by_cases hb : b.val < 1024
  · refine (dif_pos (c := (ix2 a b 1).val < 1024) hb).trans ((outOf_apply G false c a ⟨b.val, hb⟩).trans (congrArg (entryOf G c a) (Fin.ext ?_)))
    show (if false then 1024 else 0) + b.val = b.val; simp
  · have hb' : b.val - 1024 < 1024 := by have := b.isLt; omega
    refine (dif_neg (c := (ix2 a b 1).val < 1024) hb).trans ((outOf_apply G true c a ⟨b.val - 1024, hb'⟩).trans (congrArg (entryOf G c a) (Fin.ext ?_)))
    show (if true then 1024 else 0) + (b.val - 1024) = b.val; simp; omega

/-! ## Beside the reference -/

/-- When the devices hold their blocks of the reference's arrays, a device's result is its block of the reference's. -/
theorem result_block (x : Vec Ideal ⟨2, ![4096, 4096]⟩ .fp8e4m3) (w : Vec Ideal ⟨2, ![4096, 2048]⟩ .fp8e5m2) (sx sw : Vec Ideal S1 .f32)
    (hx : ∀ p, (G p).x = Layout.block ⟨2, ![4096, 128]⟩ ⟨2, ![4096, 4096]⟩ 1 32 p x)
    (hw : ∀ p, (G p).w = Layout.block ⟨2, ![128, 2048]⟩ ⟨2, ![4096, 2048]⟩ 0 32 p w)
    (hsx : ∀ p, (G p).sx = sx) (hsw : ∀ p, (G p).sw = sw) (c : Dev nD) :
    result G c = Layout.block ⟨2, ![128, 2048]⟩ ⟨2, ![4096, 2048]⟩ 0 32 c (Cert.ReferenceIdeal.Whole.whole x w sx sw) := by
  funext i
  obtain ⟨a, b, rfl⟩ : ∃ (a : Fin 128) (b : Fin 2048), i = ix2 a b := ⟨i 0, i 1, funext fun j => by match j with | ⟨0, _⟩ => rfl | ⟨1, _⟩ => rfl⟩
  have hi : (by decide : Layout.Tiles ⟨2, ![128, 2048]⟩ ⟨2, ![4096, 2048]⟩ 0 32).idx c (ix2 a b) = ix2 (row c a) b :=
    funext fun j => by match j with | ⟨0, _⟩ => rfl | ⟨1, _⟩ => rfl
  rw [result_apply, Layout.block_apply, hi]
  refine Eq.trans ?_ (Cert.ReferenceIdeal.Whole.whole_apply x w sx sw (row c a) b).symm
  unfold entryOf
  rw [hsx, hsw, ← Equiv.sum_comp (finProdFinEquiv (m := 32) (n := 128)), Fintype.sum_prod_type]
  refine congrArg (fun t : EReal => swish (t * (sx (ix1 0) * sw (ix1 0) : EReal))) (Finset.sum_congr rfl fun p _ => Finset.sum_congr rfl fun k _ => ?_)
  rw [hx, hw, Layout.block_apply, Layout.block_apply]
  refine congrArg₂ (fun s t : EReal => s * t) (congrArg x (funext fun j => Fin.ext ?_)) (congrArg w (funext fun j => Fin.ext ?_))
  · match j with
    | ⟨0, _⟩ => rfl
    | ⟨1, _⟩ => show p.val * 128 + k.val = k.val + 128 * p.val; omega
  · match j with
    | ⟨0, _⟩ => show p.val * 128 + k.val = k.val + 128 * p.val; omega
    | ⟨1, _⟩ => rfl

end Cert.KernelIdeal.Ring

end
-- ==== Proof.lean ====
/- The five claims, put together: the kernel keeps its arguments and its semaphores at both instances, the
   reference does too, and over the extended reals the kernel's devices end with their blocks of the
   reference's result. -/
module

public import proofs.«01_k».proof.Defs
public import proofs.«01_k».proof.Proof.Frames
public import proofs.«01_k».proof.Proof.Whole
public import proofs.«01_k».proof.Proof.Value

@[expose] public section

noncomputable section

namespace Cert.Proof

open Idealize.ShloMosaic Idealize.SL.Sem Cert.KernelIdeal.Ring

/-- Each device ends with its block of the reference's result. -/
theorem algebraic : Cert.algebraic_KernelIdeal_ReferenceIdeal (hKernelIdeal := Cert.KernelIdeal.Gen.facts)
    (hReferenceIdeal := Cert.ReferenceIdeal.Gen.facts) := fun m g m' g' _ h =>
  ⟨_, (θ_run (Cert.KernelIdeal.defs (F := Ideal)) _ _).mono
      (fun _ hr c => ⟨(hr.1 c).2.trans (result_block (given (entry m)) _ _ _ _
        (fun p => (entry_arg0 m p).trans (h p).1) (fun p => (entry_arg1 m p).trans (h p).2.1)
        (fun p => (entry_arg2 m p).trans (h p).2.2.1) (fun p => (entry_arg3 m p).trans (h p).2.2.2) c), (hr.1 c).1⟩)
      (run_main (F := Ideal) m g),
    (θ_run (Cert.ReferenceIdeal.defs (F := Ideal)) _ _).mono (fun _ hr => hr 0) (Cert.ReferenceIdeal.Whole.run m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
